-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x2048 : Shape := ⟨2, ![4096, 2048]⟩
abbrev S1 : Shape := ⟨1, ![1]⟩
abbrev S1024x2048 : Shape := ⟨2, ![1024, 2048]⟩
abbrev S3x1024x1024 : Shape := ⟨3, ![3, 1024, 1024]⟩
abbrev S2x512x2048 : Shape := ⟨3, ![2, 512, 2048]⟩
abbrev S3 : Shape := ⟨1, ![3]⟩
abbrev S2 : Shape := ⟨1, ![2]⟩
abbrev S_ : Shape := ⟨0, ![]⟩
abbrev S1x512x2048 : Shape := ⟨3, ![1, 512, 2048]⟩
abbrev S512x2048 : Shape := ⟨2, ![512, 2048]⟩
abbrev S1024x1024 : Shape := ⟨2, ![1024, 1024]⟩
abbrev S1x1024x1024 : Shape := ⟨3, ![1, 1024, 1024]⟩

abbrev nBuf : Space → Nat
  | .hbm => 5
  | .vmem => 6
  | .smem => 2
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S1024x2048, .f32⟩
  | .local _ .vmem, ⟨0, _⟩ => ⟨S4096x1024, .f32⟩
  | .local _ .vmem, ⟨1, _⟩ => ⟨S1024x2048, .f32⟩
  | .local _ .vmem, ⟨2, _⟩ => ⟨S3x1024x1024, .fp8e4m3⟩
  | .local _ .vmem, ⟨3, _⟩ => ⟨S3x1024x1024, .fp8e4m3⟩
  | .local _ .vmem, ⟨4, _⟩ => ⟨S2x512x2048, .f32⟩
  | .local _ .vmem, ⟨5, _⟩ => ⟨S4096x2048, .fp8e5m2⟩
  | .local _ .smem, ⟨0, _⟩ => ⟨S1, .f32⟩
  | .local _ .smem, ⟨1, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v12 : BitVec 32 := Scalar.muli v2 c1024_i32
  let v13 : BitVec 32 := Scalar.addi v12 c0_i32
  let c0_i32_11 : BitVec 32 := 0#32
  ![v13.toNat, 0]
def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v27 : BitVec 32 := Scalar.addi v2 c1_i32_18
  let c4_i32_19 : BitVec 32 := 4#32
  let v28 : BitVec 32 := Scalar.remsi v27 c4_i32_19
  let c1_i32_21 : BitVec 32 := 1#32
  let v29 : BitVec 32 := Scalar.muli v28 c1_i32_21
  let v30 : BitVec 32 := Scalar.addi c0_i32_22 v29
  v30.toNat
def k0_dev2 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_23 : BitVec 32 := 2#32
  let v31 : BitVec 32 := Scalar.addi v2 c2_i32_23
  let c4_i32_24 : BitVec 32 := 4#32
  let v32 : BitVec 32 := Scalar.remsi v31 c4_i32_24
  let c1_i32_26 : BitVec 32 := 1#32
  let v33 : BitVec 32 := Scalar.muli v32 c1_i32_26
  let v34 : BitVec 32 := Scalar.addi c0_i32_27 v33
  v34.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_28 : BitVec 32 := 3#32
  let v35 : BitVec 32 := Scalar.addi v2 c3_i32_28
  let c4_i32_29 : BitVec 32 := 4#32
  let v36 : BitVec 32 := Scalar.remsi v35 c4_i32_29
  let c1_i32_31 : BitVec 32 := 1#32
  let v37 : BitVec 32 := Scalar.muli v36 c1_i32_31
  let v38 : BitVec 32 := Scalar.addi c0_i32_32 v37
  v38.toNat
def k0_off2 (d0 : Dev nD) (c1_i32_34 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v39 : BitVec 32 := Scalar.addi v2 c1_i32_34
  let c4_i32_35 : BitVec 32 := 4#32
  let v40 : BitVec 32 := Scalar.remsi v39 c4_i32_35
  let c1024_i32_36 : BitVec 32 := 1024#32
  let v41 : BitVec 32 := Scalar.muli v40 c1024_i32_36
  let v42 : Index := Scalar.indexCast v41
  let c0 : Index := 0#32
  ![v42.toNat, 0]
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v39 : BitVec 32 := Scalar.addi v2 c1_i32_34
  let c4_i32_35 : BitVec 32 := 4#32
  let v40 : BitVec 32 := Scalar.remsi v39 c4_i32_35
  let c1_i32_44 : BitVec 32 := 1#32
  let v49 : BitVec 32 := Scalar.muli v40 c1_i32_44
  let v50 : BitVec 32 := Scalar.addi c0_i32_45 v49
  v50.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_50 : BitVec 32 := 2#32
  let v59 : BitVec 32 := Scalar.addi v2 c2_i32_50
  let c4_i32_51 : BitVec 32 := 4#32
  let v60 : BitVec 32 := Scalar.remsi v59 c4_i32_51
  let c1_i32_60 : BitVec 32 := 1#32
  let v69 : BitVec 32 := Scalar.muli v60 c1_i32_60
  let v70 : BitVec 32 := Scalar.addi c0_i32_61 v69
  v70.toNat
def k0_dev6 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_66 : BitVec 32 := 3#32
  let v79 : BitVec 32 := Scalar.addi v2 c3_i32_66
  let c4_i32_67 : BitVec 32 := 4#32
  let v80 : BitVec 32 := Scalar.remsi v79 c4_i32_67
  let c1_i32_76 : BitVec 32 := 1#32
  let v89 : BitVec 32 := Scalar.muli v80 c1_i32_76
  let v90 : BitVec 32 := Scalar.addi c0_i32_77 v89
  v90.toNat
def k0_off3 (d0 : Dev nD) (c0_i32_90 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_89 : BitVec 32 := 1024#32
  let v107 : BitVec 32 := Scalar.muli v2 c1024_i32_89
  let v108 : BitVec 32 := Scalar.addi v107 c0_i32_90
  let v112 : Index := Scalar.indexCast v108
  let c0_94 : Index := 0#32
  ![v112.toNat, 0]
def k0_off4 (d0 : Dev nD) (c1_i32_0 : BitVec 32) (c0_i32_96 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1024_i32_95 : BitVec 32 := 1024#32
  let v116 : BitVec 32 := Scalar.muli v5 c1024_i32_95
  let v117 : BitVec 32 := Scalar.addi v116 c0_i32_96
  let c0_i32_101 : BitVec 32 := 0#32
  ![v117.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_120 : BitVec 32 := 1024#32
  let v144 : BitVec 32 := Scalar.muli v2 c1024_i32_120
  let v145 : Index := Scalar.indexCast v144
  let c0_121 : Index := 0#32
  ![v145.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_122 : BitVec 32 := 1024#32
  let v149 : BitVec 32 := Scalar.muli v2 c1024_i32_122
  let v150 : Index := Scalar.indexCast v149
  let c0_123 : Index := 0#32
  ![v150.toNat, 0]
def k0_off7 (d0 : Dev nD) (c1_i32_0 : BitVec 32) (c0_i32_132 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1024_i32_131 : BitVec 32 := 1024#32
  let v159 : BitVec 32 := Scalar.muli v5 c1024_i32_131
  let v160 : BitVec 32 := Scalar.addi v159 c0_i32_132
  let v164 : Index := Scalar.indexCast v160
  let c0_136 : Index := 0#32
  ![v164.toNat, 0]
def k0_off8 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1024_i32_175 : BitVec 32 := 1024#32
  let v206 : BitVec 32 := Scalar.muli v5 c1024_i32_175
  let v207 : Index := Scalar.indexCast v206
  let c0_176 : Index := 0#32
  ![v207.toNat, 0]
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.KernelIdealProtocol.lean ====
/-
# The kernel's memory, its cells and its protocol

Four devices multiply: device `c` holds the column block `c` of `x` and wants the row block `c` of `x · w`. It sends
the row block `c + k + 1` of its own columns to device `c + k + 1` (slot `k` of its send buffer into slot `k` of that
device's receive buffer, for `k = 0, 1, 2`), copies the rows of `w` it needs through a two-slot buffer, and adds up
four products.

This module names the buffers' pieces, states what a piece holds, and states the protocol:

* the barrier cell of a device has three duties of one unit, duty `k` paid by the device it is `k + 1` ahead of, which
  gives with it the receive slot the owner of the cell will write;
* the receive cell `k` has one duty, paid by the transfer into slot `k`, which gives the slot holding what was sent;
* the send cell `k` has one duty, paid by the transfer out of slot `k`, which gives the slot back.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Transfers
public import Idealize.ShloMosaic.Lib.Writes
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging cells' rounds, the kernel's own rounds, the local copies' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The kernel's rounds: the left half of the right factor. -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local copies' counters. -/
abbrev EC : UEmb Counters (MT nD τ sig Unit (Elt F) ℕ UU ℕ) := countersEmb (U := UU)

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices in a ring -/

/-- The device `o` places ahead of `c`. -/
def sh (o : ℕ) (c : Dev nD) : Dev nD := ⟨(c.val + o) % 4, Nat.mod_lt _ (by decide)⟩

theorem sh_rev (k : Fin 3) (c : Dev nD) : sh (k.rev.val + 1) (sh (k.val + 1) c) = c := by revert k c; decide
theorem rev_sh (k : Fin 3) (c : Dev nD) : sh (k.val + 1) (sh (k.rev.val + 1) c) = c := by revert k c; decide

/-- Going `k + 1` places ahead, as a rearrangement of the devices. -/
def ring (k : Fin 3) : Dev nD ≃ Dev nD := ⟨sh (k.val + 1), sh (k.rev.val + 1), sh_rev k, rev_sh k⟩

theorem dev1_eq (c : Dev nD) : (⟨k0_dev1 c, k0_dev1_lt c⟩ : Dev nD) = sh 1 c := Fin.ext (k0_dev1_eq c)
theorem dev2_eq (c : Dev nD) : (⟨k0_dev2 c, k0_dev2_lt c⟩ : Dev nD) = sh 2 c := Fin.ext (k0_dev2_eq c)
theorem dev3_eq (c : Dev nD) : (⟨k0_dev3 c, k0_dev3_lt c⟩ : Dev nD) = sh 3 c := Fin.ext (k0_dev3_eq c)
theorem dev4_eq (c : Dev nD) : (⟨k0_dev4 c, k0_dev4_lt c⟩ : Dev nD) = sh 1 c := Fin.ext (k0_dev4_eq c)
theorem dev5_eq (c : Dev nD) : (⟨k0_dev5 c, k0_dev5_lt c⟩ : Dev nD) = sh 2 c := Fin.ext (k0_dev5_eq c)
theorem dev6_eq (c : Dev nD) : (⟨k0_dev6 c, k0_dev6_lt c⟩ : Dev nD) = sh 3 c := Fin.ext (k0_dev6_eq c)

/-! ## The buffers and their pieces -/

abbrev xM : Memref sig .tc .vmem S4096x1024 .f32 := Memref.whole cc0_stg0_0
abbrev oM : Memref sig .tc .vmem S1024x2048 .f32 := Memref.whole cc0_stg3_0
abbrev wM : Memref sig .tc .hbm S4096x2048 .f32 := Memref.whole main_arg1
abbrev stM : Memref sig .tc .vmem S3x1024x1024 .fp8e4m3 := Memref.whole cc0_scratch0
abbrev rvM : Memref sig .tc .vmem S3x1024x1024 .fp8e4m3 := Memref.whole cc0_scratch1
abbrev wbM : Memref sig .tc .vmem S2x512x2048 .f32 := Memref.whole cc0_scratch2
abbrev wsM : Memref sig .tc .vmem S4096x2048 .fp8e5m2 := Memref.whole cc0_scratch3

theorem slot_inb (k : Fin 3) : ∀ a, (![k.val, 0, 0] : Fin 3 → ℕ) a + S1x1024x1024.size a ≤ S3x1024x1024.size a := by
  revert k; decide
/-- Slot `k` of the send buffer or of the receive buffer. -/
abbrev rS (k : Fin 3) : Rect S3x1024x1024 := Rect.unit (s := S3x1024x1024) ![k.val, 0, 0] S1x1024x1024.size (slot_inb k)
abbrev stSlot (k : Fin 3) : Memref sig .tc .vmem S1024x1024 .fp8e4m3 :=
  (stM.slice (rS k) (fun _ => rfl)).squeeze S1024x1024 squeezes_S1x1024x1024_S1024x1024
abbrev rvSlot (k : Fin 3) : Memref sig .tc .vmem S1024x1024 .fp8e4m3 :=
  (rvM.slice (rS k) (fun _ => rfl)).squeeze S1024x1024 squeezes_S1x1024x1024_S1024x1024

theorem half_inb (h : Fin 2) : ∀ a, (![h.val, 0, 0] : Fin 3 → ℕ) a + S1x512x2048.size a ≤ S2x512x2048.size a := by
  revert h; decide
/-- Slot `h` of the two-slot buffer the rows of `w` pass through. -/
abbrev rB (h : Fin 2) : Rect S2x512x2048 := Rect.unit (s := S2x512x2048) ![h.val, 0, 0] S1x512x2048.size (half_inb h)
abbrev wbSlot (h : Fin 2) : Memref sig .tc .vmem S512x2048 .f32 :=
  (wbM.slice (rB h) (fun _ => rfl)).squeeze S512x2048 squeezes_S1x512x2048_S512x2048

theorem rows_inb (b : Dev nD) (h : Fin 2) :
    ∀ a, (![1024 * b.val + 512 * h.val, 0] : Fin 2 → ℕ) a + S512x2048.size a ≤ S4096x2048.size a := by
  revert b h; decide
/-- Half `h` of the row block `b` of `w`. -/
abbrev rW (b : Dev nD) (h : Fin 2) : Rect S4096x2048 :=
  Rect.unit (s := S4096x2048) ![1024 * b.val + 512 * h.val, 0] S512x2048.size (rows_inb b h)
abbrev wPart (b : Dev nD) (h : Fin 2) : Memref sig .tc .hbm S512x2048 .f32 := wM.slice (rW b h) (fun _ => rfl)

theorem block_inb (b : Dev nD) :
    ∀ a, (![1024 * b.val, 0] : Fin 2 → ℕ) a + S1024x2048.size a ≤ S4096x2048.size a := by
  revert b; decide
/-- The row block `b` of `w`. -/
abbrev rWB (b : Dev nD) : Rect S4096x2048 := Rect.unit (s := S4096x2048) ![1024 * b.val, 0] S1024x2048.size (block_inb b)

theorem xblock_inb (b : Dev nD) :
    ∀ a, (![1024 * b.val, 0] : Fin 2 → ℕ) a + S1024x1024.size a ≤ S4096x1024.size a := by
  revert b; decide
/-- The row block `b` of a device's columns of `x`. -/
abbrev rX (b : Dev nD) : Rect S4096x1024 := Rect.unit (s := S4096x1024) ![1024 * b.val, 0] S1024x1024.size (xblock_inb b)

/-! ## The semaphores -/

theorem sem3_inb (k : Fin 3) : ∀ a, (![k.val] : Fin 1 → ℕ) a + S1.size a ≤ S3.size a := by revert k; decide
theorem sem2_inb (h : Fin 2) : ∀ a, (![h.val] : Fin 1 → ℕ) a + S1.size a ≤ S2.size a := by revert h; decide

/-- The barrier semaphore, of the launch and not of the kernel. -/
abbrev barS : Sem sig := (SemArray.scalar (sig.barrier 0 rfl) : Sems sig S_).sem
abbrev sendS (k : Fin 3) : DmaSem sig :=
  ((cc0_scratch4.slice (Rect.unit (s := S3) ![k.val] S1.size (sem3_inb k))).squeeze S_ squeezes_S1_S_).sem
abbrev recvS (k : Fin 3) : DmaSem sig :=
  ((cc0_scratch5.slice (Rect.unit (s := S3) ![k.val] S1.size (sem3_inb k))).squeeze S_ squeezes_S1_S_).sem
abbrev copyS (h : Fin 2) : DmaSem sig :=
  ((cc0_scratch6.slice (Rect.unit (s := S2) ![h.val] S1.size (sem2_inb h))).squeeze S_ squeezes_S1_S_).sem

theorem sendS_val (k : Fin 3) : (sendS k).val = 4 + k.val := by revert k; decide
theorem recvS_val (k : Fin 3) : (recvS k).val = 7 + k.val := by revert k; decide
theorem copyS_val (h : Fin 2) : (copyS h).val = 10 + h.val := by revert h; decide

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))
abbrev copyCell (c : Dev nD) (h : Fin 2) : GSem nD τ sig := ((c : Thread nD τ), .dma (copyS h))

/-- What a semaphore is for. -/
inductive Role where
  | bar
  | send (k : Fin 3)
  | recv (k : Fin 3)
  | other
deriving DecidableEq

def role : SemLoc sig → Role
  | .reg _ => .bar
  | .dma s =>
    if h : 4 ≤ s.val ∧ s.val < 7 then .send ⟨s.val - 4, by omega⟩
    else if h : 7 ≤ s.val ∧ s.val < 10 then .recv ⟨s.val - 7, by omega⟩
    else .other

theorem role_bar : role (.reg barS) = .bar := rfl
theorem role_send (k : Fin 3) : role (.dma (sendS k)) = .send k := by revert k; decide
theorem role_recv (k : Fin 3) : role (.dma (recvS k)) = .recv k := by revert k; decide

/-- The bytes a slot's transfer credits. -/
abbrev N : ℕ := (rvSlot 0 : Memref sig .tc .vmem S1024x1024 .fp8e4m3).view.dmaCredit
theorem N_pos : 0 < N := View.dmaCredit_pos _ (by decide)
/-- What a copy of half a block of `w` credits. -/
abbrev NW : ℕ := (wbSlot 0 : Memref sig .tc .vmem S512x2048 .f32).view.dmaCredit
theorem NW_pos : 0 < NW := View.dmaCredit_pos _ (by decide)

/-! ## What the pieces hold -/

/-- Device `c`'s columns of `x`, staged. -/
def xstg (c : Dev nD) : (cc0_stg0_0 : Ref sig .tc).ty.Contents (Elt F) :=
  (win0_0.blk (0 : Fin 1)).view.read (Elt F) ((s₀ m ρ).mem ((c : Thread nD τ).loc main_arg0))
/-- The two scales, staged. -/
def sxstg (c : Dev nD) : (cc0_stg1_0 : Ref sig .tc).ty.Contents (Elt F) :=
  (win0_1.blk (0 : Fin 1)).view.read (Elt F) ((s₀ m ρ).mem ((c : Thread nD τ).loc main_arg2))
def swstg (c : Dev nD) : (cc0_stg2_0 : Ref sig .tc).ty.Contents (Elt F) :=
  (win0_2.blk (0 : Fin 1)).view.read (Elt F) ((s₀ m ρ).mem ((c : Thread nD τ).loc main_arg3))

/-- Device `c`'s copy of `w`. -/
abbrev wbuf (c : Dev nD) : Buf (Elt F) ((c : Thread nD τ).loc main_arg1) := m ((c : Thread nD τ).loc main_arg1)

/-- The row block `b` of device `c`'s columns of `x`. -/
def xblk (c b : Dev nD) : Vec F S1024x1024 .f32 := xM.view.readAt (Elt F) (rX b).toLoadRect (xstg m ρ c)
/-- What device `c` sends from slot `k`: the row block `c + k + 1` of its columns, narrowed. -/
def sent (c : Dev nD) (k : Fin 3) : Vec F S1024x1024 .fp8e4m3 := k0_pay12 (k0_pay1 (xblk m ρ c (sh (k.val + 1) c)))
/-- Half `h` of the row block `b` of `w`, -/
def whalf (c b : Dev nD) (h : Fin 2) : Vec F S512x2048 .f32 := wM.view.readAt (Elt F) (rW b h).toLoadRect (wbuf m c)
/-- the same narrowed, -/
def whalf8 (c b : Dev nD) (h : Fin 2) : Vec F S512x2048 .fp8e5m2 := truncf .fp8e5m2 (whalf m c b h) bitsLt_fp8e5m2_f32
/-- and the whole block narrowed. -/
def wblk8 (c b : Dev nD) : Vec F S1024x2048 .fp8e5m2 :=
  truncf .fp8e5m2 (wM.view.readAt (Elt F) (rWB b).toLoadRect (wbuf m c) : Vec F S1024x2048 .f32) bitsLt_fp8e5m2_f32

/-- Slot `k` of the send buffer at contents `f`, -/
def stPts (c : Dev nD) (k : Fin 3) (f : Buf (Elt F) ((c : Thread nD τ).loc cc0_scratch0)) : sProp 𝕄 :=
  (stSlot k).view.loc (c : Thread nD τ) ↦[(stSlot k).view.set]{fullShare} f
/-- of the receive buffer, -/
def rvPts (c : Dev nD) (k : Fin 3) (f : Buf (Elt F) ((c : Thread nD τ).loc cc0_scratch1)) : sProp 𝕄 :=
  (rvSlot k).view.loc (c : Thread nD τ) ↦[(rvSlot k).view.set]{fullShare} f
/-- and slot `h` of the buffer of `w`'s rows. -/
def wbPts (c : Dev nD) (h : Fin 2) (f : Buf (Elt F) ((c : Thread nD τ).loc cc0_scratch2)) : sProp 𝕄 :=
  (wbSlot h).view.loc (c : Thread nD τ) ↦[(wbSlot h).view.set]{fullShare} f

omit [FloatOps F] in
instance stPts_storable (c : Dev nD) (k : Fin 3) (f) : BI.Storable (upEmb : UEmb _ 𝕄) (stPts (F := F) c k f) := by
  unfold stPts; infer_instance
omit [FloatOps F] in
instance rvPts_storable (c : Dev nD) (k : Fin 3) (f) : BI.Storable (upEmb : UEmb _ 𝕄) (rvPts (F := F) c k f) := by
  unfold rvPts; infer_instance

/-! ## The schedule -/

/-- What duty `k` of `c`'s barrier cell gives: of the device that pays it (`c` is `k + 1` ahead of it), the receive slot
    `c` writes and that it stands at round 0 of that slot's receive cell. -/
def barPay (c : Dev nD) (k : Fin 3) : sProp 𝕄 :=
  iprop((∃ f, rvPts (sh (k.rev.val + 1) c) k.rev f) ∗ reached ER (recvCell (sh (k.rev.val + 1) c) k.rev) 0)
/-- What the receive cell `k` gives: the slot, holding what the device `c` is `k + 1` ahead of sent. -/
def recvPay (c : Dev nD) (k : Fin 3) : sProp 𝕄 :=
  iprop(∃ f, ⌜(rvSlot k).view.read (Elt F) f = sent m ρ (sh (k.rev.val + 1) c) k⌝ ∗ rvPts c k f)
/-- What the send cell `k` gives: the slot. -/
def sendPay (c : Dev nD) (k : Fin 3) : sProp 𝕄 := iprop(∃ f, stPts (F := F) c k f)

def Rd : Rounds.Schedule (GSem nD τ sig) (Fin 3) 𝕄 where
  duties g r := if r = 0 ∧ g.1.2 = .tc then (match role g.2 with | .bar => Finset.univ | .send _ => {0} | .recv _ => {0} | .other => ∅) else ∅
  unitless _ := False
  amount g _ _ := match role g.2 with | .bar => 1 | .send _ => N | .recv _ => N | .other => N
  payload g _ d := match role g.2 with
    | .bar => barPay g.1.1 d
    | .send k => sendPay g.1.1 k
    | .recv k => recvPay m ρ g.1.1 k
    | .other => iprop(emp)
  amount_pos g _ _ _ := by split <;> first | exact Nat.one_pos | exact N_pos

instance Rd_payload_storable (g : GSem nD τ sig) (r : ℕ) (d : Fin 3) :
    BI.Storable (upEmb : UEmb _ 𝕄) ((Rd (F := F) m ρ).payload g r d) := by
  show BI.Storable upEmb (match role g.2 with
    | .bar => barPay g.1.1 d | .send k => sendPay g.1.1 k | .recv k => recvPay m ρ g.1.1 k | .other => iprop(emp))
  unfold barPay recvPay sendPay
  split <;> infer_instance

section Sched
variable (c : Dev nD) (k : Fin 3)

theorem duties_bar : (Rd (F := F) m ρ).duties (barCell c) 0 = Finset.univ := by
  dsimp only [Rd]; rw [if_pos ⟨rfl, rfl⟩]; rfl
theorem duties_send : (Rd (F := F) m ρ).duties (sendCell c k) 0 = {0} := by
  dsimp only [Rd]; rw [if_pos ⟨rfl, rfl⟩, role_send]
theorem duties_recv : (Rd (F := F) m ρ).duties (recvCell c k) 0 = {0} := by
  dsimp only [Rd]; rw [if_pos ⟨rfl, rfl⟩, role_recv]
theorem duties_later (g : GSem nD τ sig) : ∀ r, 1 ≤ r → (Rd (F := F) m ρ).duties g r = ∅ :=
  fun r hr => by dsimp only [Rd]; rw [if_neg fun h => by omega]

theorem amount_bar (d : Fin 3) : (Rd (F := F) m ρ).amount (barCell c) 0 d = 1 := rfl
theorem amount_send (d : Fin 3) : (Rd (F := F) m ρ).amount (sendCell c k) 0 d = N := by dsimp only [Rd]; rw [role_send]
theorem amount_recv (d : Fin 3) : (Rd (F := F) m ρ).amount (recvCell c k) 0 d = N := by dsimp only [Rd]; rw [role_recv]

theorem expect_bar : (Rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send : (Rd (F := F) m ρ).expect (sendCell c k) 0 = N := by
  unfold Schedule.expect Schedule.amountOf; rw [duties_send, Finset.sum_singleton, amount_send]
theorem expect_recv : (Rd (F := F) m ρ).expect (recvCell c k) 0 = N := by
  unfold Schedule.expect Schedule.amountOf; rw [duties_recv, Finset.sum_singleton, amount_recv]

theorem payload_bar (d : Fin 3) : (Rd (F := F) m ρ).payload (barCell c) 0 d = barPay c d := rfl
theorem payload_send (d : Fin 3) : (Rd (F := F) m ρ).payload (sendCell c k) 0 d = sendPay c k := by dsimp only [Rd]; rw [role_send]
theorem payload_recv (d : Fin 3) : (Rd (F := F) m ρ).payload (recvCell c k) 0 d = recvPay m ρ c k := by dsimp only [Rd]; rw [role_recv]

theorem rest_bar : bigSep ((Rd (F := F) m ρ).duties (barCell c) 0 \ ∅) (fun d => (Rd (F := F) m ρ).payload (barCell c) 0 d)
    = iprop(barPay c 0 ∗ barPay c 1 ∗ barPay c 2) := by
  rw [Finset.sdiff_empty, duties_bar, Ring.bigSep_fin3]; rfl
theorem rest_send : bigSep ((Rd (F := F) m ρ).duties (sendCell c k) 0 \ ∅) (fun d => (Rd (F := F) m ρ).payload (sendCell c k) 0 d)
    = sendPay c k := by
  rw [Finset.sdiff_empty, duties_send, bigSep_singleton, payload_send]
theorem rest_recv : bigSep ((Rd (F := F) m ρ).duties (recvCell c k) 0 \ ∅) (fun d => (Rd (F := F) m ρ).payload (recvCell c k) 0 d)
    = recvPay m ρ c k := by
  rw [Finset.sdiff_empty, duties_recv, bigSep_singleton, payload_recv]

end Sched

/-! ## What each device owes at launch; the levels -/

/-- The credit of device `c`'s transfer from slot `k`, -/
abbrev recvT (c : Dev nD) (k : Fin 3) : CellTallies nD τ sig Unit := tallyAt (recvCell (sh (k.val + 1) c) k) () N
/-- the unit of its signal to the device `k + 1` ahead. -/
abbrev barT (c : Dev nD) (k : Fin 3) : CellTallies nD τ sig Unit := tallyAt (barCell (sh (k.val + 1) c)) () 1

/-- After two transfers, -/
def O₃ (c : Dev nD) : CellTallies nD τ sig Unit := 0 + recvT c 2
/-- after one, -/
def O₂ (c : Dev nD) : CellTallies nD τ sig Unit := O₃ c + recvT c 1
/-- before the first, -/
def O₁ (c : Dev nD) : CellTallies nD τ sig Unit := O₂ c + recvT c 0
/-- and at launch, the three signals on top, the first to be paid added last. -/
def O₀ (c : Dev nD) : CellTallies nD τ sig Unit := O₁ c + barT c 2 + barT c 1 + barT c 0

def L (g : GSem nD τ sig) : Finset Unit := if g.1.2 = .tc then {()} else ∅
/-- Barrier cells at 1, receive cells at 2, everything else at 0. -/
def lv (g : GSem nD τ sig) (_ : Unit) : ℕ := match role g.2 with | .bar => 1 | .recv _ => 2 | .send _ => 0 | .other => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (k : Fin 3) : lv (recvCell c k) () = 2 := by dsimp only [lv]; rw [role_recv]

theorem tally_pos {g g' : GSem nD τ sig} {n : ℕ} {u : Unit} (h : 0 < tallyAt g () n g' u) : g' = g := by
  rw [tallyAt_apply] at h
  by_contra hn
  rw [if_neg (fun h' => hn h'.1)] at h
  exact Nat.lt_irrefl 0 h

theorem O₁_pos {c : Dev nD} {g : GSem nD τ sig} {u : Unit} (h : 0 < O₁ c g u) : ∃ c' k, g = recvCell c' k := by
  unfold O₁ O₂ O₃ at h
  simp only [Pi.add_apply, Finsupp.add_apply, zero_add] at h
  have h' : 0 < recvT c 2 g u ∨ 0 < recvT c 1 g u ∨ 0 < recvT c 0 g u := by omega
  rcases h' with h | h | h
  · exact ⟨_, _, tally_pos h⟩
  · exact ⟨_, _, tally_pos h⟩
  · exact ⟨_, _, tally_pos h⟩

theorem O₀_pos {c : Dev nD} {g : GSem nD τ sig} {u : Unit} (h : 0 < O₀ c g u) :
    (∃ c' k, g = recvCell c' k) ∨ ∃ c', g = barCell c' := by
  unfold O₀ at h
  simp only [Pi.add_apply, Finsupp.add_apply] at h
  have h' : 0 < O₁ c g u ∨ 0 < barT c 2 g u ∨ 0 < barT c 1 g u ∨ 0 < barT c 0 g u := by omega
  rcases h' with h | h | h | h
  · exact .inl (O₁_pos h)
  · exact .inr ⟨_, tally_pos h⟩
  · exact .inr ⟨_, tally_pos h⟩
  · exact .inr ⟨_, tally_pos h⟩

/-- Whatever is owed at launch is owed to a device's own thread, above level 0. -/
theorem O₀_above {c : Dev nD} {g : GSem nD τ sig} {u : Unit} (h : 0 < O₀ c g u) : g.1.2 = .tc ∧ 0 < lv g () := by
  rcases O₀_pos h with ⟨c', k, rfl⟩ | ⟨c', rfl⟩
  · exact ⟨rfl, by rw [lv_recv]; exact Nat.two_pos⟩
  · exact ⟨rfl, Nat.one_pos⟩
/-- After the signals it is above level 1. -/
theorem O₁_above {c : Dev nD} {g : GSem nD τ sig} {u : Unit} (h : 0 < O₁ c g u) : g.1.2 = .tc ∧ 1 < lv g () := by
  obtain ⟨c', k, rfl⟩ := O₁_pos h
  exact ⟨rfl, by rw [lv_recv]; exact Nat.one_lt_two⟩

omit [FloatOps F] in
/-- A wait is allowed at a cell of a level that all that is owed is above. -/
theorem mayWait_under (c : Dev nD) (sm : SemLoc sig) (O : CellTallies nD τ sig Unit)
    (hO : ∀ g u, 0 < O g u → g.1.2 = .tc ∧ lv ((c : Thread nD τ), sm) () < lv g ()) :
    (levAts L lv : sProp 𝕄) ⊢ MayWait (c : Thread nD τ) sm () O :=
  MayOwe.of_levAts (L := L) (lev := lv)
    (fun p hp => by cases Finset.mem_singleton.mp hp; rw [L_tc]; exact Finset.mem_singleton_self _)
    (fun g u hg => by rw [show L g = {()} from if_pos (hO g u hg).1]; exact Finset.mem_singleton_self _)
    (fun g u hg p hp => by cases Finset.mem_singleton.mp hp; exact (hO g u hg).2)

omit [FloatOps F] in
/-- So it is on a staging cell, whatever of this is owed, -/
theorem mayWait_stage (c : Dev nD) (q : DmaSem sig) (hq : role (.dma q) = .other) (O : CellTallies nD τ sig Unit) (hO : O = O₀ c ∨ O = 0) :
    (levAts L lv : sProp 𝕄) ⊢ MayWait (c : Thread nD τ) (.dma q) () O :=
  mayWait_under c _ O fun g u hg => by
    rw [show lv ((c : Thread nD τ), SemLoc.dma q) () = 0 by dsimp only [lv]; rw [hq]]
    cases hO with
    | inl h => exact O₀_above (h ▸ hg)
    | inr h => rw [h] at hg; exact absurd hg (Nat.lt_irrefl 0)

omit [FloatOps F] in
/-- and at the barrier, when the signals are paid. -/
theorem mayWait_bar (c : Dev nD) : (levAts L lv : sProp 𝕄) ⊢ MayWait (c : Thread nD τ) (.reg barS) () (O₁ c) :=
  mayWait_under c _ _ fun _ _ => O₁_above

end Cert.KernelIdeal.Run
-- ==== Proof.KernelIdealSteps.lean ====
/-
# The steps of the body

One rule for each kind of step the body is made of, stated once for every slot, half and block: a copy of half a block of
`w` issued and awaited, the half narrowed into place, a block of `x` put into its send slot, sent, and received. What a
buffer holds is stated as what a view of it reads.
-/
module

public import proofs.«01_k».proof.Proof.KernelIdealProtocol

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The kernel's seven cells on a device -/

/-- A cell of a device: the barrier, a send cell, a receive cell. -/
abbrev CI : Type := Option (Bool × Fin 3)
abbrev csem : CI → SemLoc sig
  | none => .reg barS
  | some (false, k) => .dma (sendS k)
  | some (true, k) => .dma (recvS k)
abbrev kcell (p : Dev nD × CI) : GSem nD τ sig := ((p.1 : Thread nD τ), csem p.2)

/-- Every cell's invariant, at its name, and that every cell's round 0 is reached: what any device may use. -/
def records (K : Dev nD × CI → ℕ) : sProp 𝕄 :=
  iprop((bigSep Finset.univ fun p => cellInv ER (Rd m ρ) (K p) (kcell p)) ∗ bigSep Finset.univ fun p => reached ER (kcell p) 0)

instance records_persistent (K : Dev nD × CI → ℕ) : BI.Persistent (records m ρ K) := by unfold records; infer_instance

variable (K : Dev nD × CI → ℕ)

theorem records_inv (p : Dev nD × CI) : records m ρ K ⊢ cellInv ER (Rd m ρ) (K p) (kcell p) := by
  have h : (bigSep Finset.univ fun p => (cellInv ER (Rd m ρ) (K p) (kcell p) : sProp 𝕄)) ⊢ cellInv ER (Rd m ρ) (K p) (kcell p) :=
    bigSep_elim (Finset.mem_univ p)
  unfold records
  iintro ⟨#H, -⟩
  iapply h; iexact H

theorem records_reached (p : Dev nD × CI) : records m ρ K ⊢ reached ER (kcell p) 0 := by
  have h : (bigSep Finset.univ fun p => (reached ER (kcell p) 0 : sProp 𝕄)) ⊢ reached ER (kcell p) 0 :=
    bigSep_elim (Finset.mem_univ p)
  unfold records
  iintro ⟨-, #H⟩
  iapply h; iexact H

/-- Device `c` owes nothing. -/
def Ow (c : Dev nD) : sProp 𝕄 := iprop(∃ W, owes (c : Thread nD τ) 0 W)

/-! ## The copies of `w`'s rows -/

/-- The share of `w` the copies into slot `h` read at. -/
def wq (h : Fin 2) : PosShare TreeShare := if h = 0 then fullShare.left else fullShare.right

/-- That share of device `c`'s `w`, -/
def wAt (c : Dev nD) (h : Fin 2) : sProp 𝕄 := ((c : Thread nD τ).loc main_arg1) ↦{wq h} wbuf m c
/-- slot `h` holding anything, -/
def wbFree (c : Dev nD) (h : Fin 2) : sProp 𝕄 := iprop(∃ f, wbPts (F := F) c h f)
/-- slot `h` holding half `h` of block `b`, -/
def Landed (c : Dev nD) (h : Fin 2) (b : Dev nD) : sProp 𝕄 :=
  iprop(∃ f, ⌜(wbSlot h).view.read (Elt F) f = whalf m c b h⌝ ∗ wbPts c h f)
/-- and that half on its way into slot `h`. -/
def InFl (c : Dev nD) (h : Fin 2) (b : Dev nD) : sProp 𝕄 :=
  iprop(Transfers.Flight EC (c : Thread nD τ) (.dma (copyS h)) () NW
      iprop(Landed m c h b ∗ ((wPart b h).view.loc (c : Thread nD τ) ↦[(wPart b h).view.set]{wq h} wbuf m c))
    ∗ (((c : Thread nD τ).loc main_arg1) ↦[Finset.univ \ (wPart b h).view.set]{wq h} wbuf m c))

/-- What a copy leaves is the slot holding the half. -/
theorem landed_of_copy (c b : Dev nD) (h : Fin 2) (f : Buf (Elt F) ((c : Thread nD τ).loc cc0_scratch2)) :
    (iprop(((wbSlot h).view.loc (c : Thread nD τ) ↦[(wbSlot h).view.set]{fullShare}
          ((wbSlot h).view.write (Elt F) f (ReadAs.same.apply ((wPart b h).view.read (Elt F) (wbuf m c))) Finset.univ))
        ∗ ((wPart b h).view.loc (c : Thread nD τ) ↦[(wPart b h).view.set]{wq h} wbuf m c)) : sProp 𝕄)
      ⊢ iprop(Landed m c h b ∗ ((wPart b h).view.loc (c : Thread nD τ) ↦[(wPart b h).view.set]{wq h} wbuf m c)) := by
  iintro ⟨Hb, Hw⟩
  isplitl [Hb]
  · unfold Landed wbPts
    iexists ((wbSlot h).view.write (Elt F) f (ReadAs.same.apply ((wPart b h).view.read (Elt F) (wbuf m c))) Finset.univ)
    isplitr
    · ipureintro; exact View.read_write_univ _ _
    iexact Hb
  iexact Hw

/-- A copy issued. -/
theorem wp_copy (c b : Dev nD) (h : Fin 2) (off : Fin 2 → ℕ) (hoff : off = ![1024 * b.val + 512 * h.val, 0])
    {inb : ∀ a, off a + S512x2048.size a ≤ S4096x2048.size a}
    {hsrc : (wM.slice (Rect.unit (s := S4096x2048) off S512x2048.size inb) (fun _ => rfl)).view.WordExact}
    {hdst : (wbSlot h).view.WordExact} {hsem : DmaTarget.Typed (nD := nD) (τ := τ) (p := .tc) .hbm (.dma (copyS h)) (.here (wbSlot h))}
    {α : Type} {Q : α → sProp 𝕄} {k : PUnit → Prog (TpuEff nD τ sig (Elt F) Λ₀ .tc) α} :
    iprop(wAt m c h ∗ wbFree c h ∗ semVal (copyCell c h) 0)
      ⊢ iprop((InFl m c h b -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (wM.slice (Rect.unit (s := S4096x2048) off S512x2048.size inb) (fun _ => rfl)) (.here (wbSlot h)) (.dma (copyS h)) hsrc hdst hsem) k) Q) := by
  subst hoff
  unfold wAt wbFree
  iintro ⟨Hw, ⟨%f, Hb⟩, Hv⟩ Hk
  ihave Hw' := (pointsTo_split_subset (Finset.subset_univ (wPart b h).view.set)).1 $$ Hw
  icases Hw' with ⟨Hw, Hrest⟩
  unfold wbPts
  iapply (Transfers.wp_dmaLocal EC 𝒱₀ (c : Thread nD τ) none (src := wPart b h) (dst := wbSlot h) (Sd := (wbSlot h).view.set) (fd := f)
      (q := wq h) (fs := wbuf m c) () NW rfl NW_pos (Finset.Subset.refl _)) $$ [Hw Hb Hv]
  · isplitl [Hw]; · iexact Hw
    isplitl [Hb] <;> iassumption
  iintro HF
  iapply Hk
  unfold InFl
  isplitl [HF]
  · iapply (Transfers.Flight_mono EC (c : Thread nD τ) (landed_of_copy m c b h f)) $$ HF
  iexact Hrest

/-- A copy awaited. -/
theorem wp_land (c b : Dev nD) (h : Fin 2) {s' : Shape} {e' : EltTy} {sp' : Space} {src : Memref sig .tc sp' s' e'}
    {hsrc : src.view.WordExact} {hdst : (wbSlot h).view.WordExact}
    {α : Type} {Q : α → sProp 𝕄} {k : PUnit → Prog (TpuEff nD τ sig (Elt F) Λ₀ .tc) α} :
    iprop(InFl m c h b ∗ Ow c)
      ⊢ iprop((iprop(Landed m c h b ∗ wAt m c h ∗ semVal (copyCell c h) 0 ∗ Ow c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (copyS h) src (wbSlot h) hsrc hdst) k) Q) := by
  unfold InFl Ow
  iintro ⟨⟨HF, Hrest⟩, ⟨%W, HO⟩⟩ Hk
  iapply (Transfers.wp_waitLocal EC 𝒱₀ (c : Thread nD τ) none (srcw := src) (dstw := wbSlot h) (hsrc := hsrc) (hdst := hdst) () (N := NW) rfl) $$ [HF HO]
  · isplitl [HF] <;> iassumption
  iintro ⟨⟨HL, Hw⟩, Hv, HO⟩
  iapply Hk
  isplitl [HL]; · iexact HL
  isplitl [Hw Hrest]
  · unfold wAt
    iapply (pointsTo_split_subset (Finset.subset_univ (wPart b h).view.set)).2
    isplitl [Hw] <;> iassumption
  isplitl [Hv]; · iexact Hv
  iexists _; iexact HO

/-! ## The narrowed blocks of `w` -/

theorem rW_disjoint (b b' : Dev nD) (h h' : Fin 2) (hne : (b, h) ≠ (b', h')) : Disjoint (rW b h).set (rW b' h').set := by
  refine Rect.unit_disjoint (0 : Fin 2) ?_
  show 1024 * b.val + 512 * h.val + 512 ≤ 1024 * b'.val + 512 * h'.val ∨ 1024 * b'.val + 512 * h'.val + 512 ≤ 1024 * b.val + 512 * h.val
  have h1 := h.isLt
  have h2 := h'.isLt
  by_contra hc
  exact hne (Prod.ext (Fin.ext (by show b.val = b'.val; omega)) (Fin.ext (by show h.val = h'.val; omega)))

/-- The buffer of narrowed blocks, holding the listed halves. -/
def WsHas (c : Dev nD) (l : List (Dev nD × Fin 2)) : sProp 𝕄 :=
  iprop(∃ g, ⌜∀ p ∈ l, wsM.view.readAt (Elt F) (rW p.1 p.2).toLoadRect g = whalf8 m c p.1 p.2⌝ ∗ (((c : Thread nD τ).loc cc0_scratch3) ↦{fullShare} g))

omit [FloatOps F] in
/-- Writing one half leaves what the others read. -/
theorem ws_write (g : (cc0_scratch3 : Ref sig .tc).ty.Contents (Elt F)) (b b' : Dev nD) (h h' : Fin 2) (w : Vec F S512x2048 .fp8e5m2) :
    wsM.view.readAt (Elt F) (rW b' h').toLoadRect ((wsM.access (rW b h)).write (Elt F) g w Finset.univ)
      = if (b, h) = (b', h') then w else wsM.view.readAt (Elt F) (rW b' h').toLoadRect g := by
  by_cases hb : (b, h) = (b', h')
  · rw [if_pos hb]
    obtain ⟨rfl, rfl⟩ := Prod.mk.inj hb
    exact View.read_write_univ _ _
  · rw [if_neg hb]
    refine View.read_slice_write_slice_of_disjoint (v := wsM.view) (rW b' h') (rW b h) g w Finset.univ ?_
    rw [View.setOn_univ]
    simp only [Memref.view_whole, View.set_slice_whole]
    exact rW_disjoint _ _ _ _ fun e => hb e.symm

/-- Every row of a block is a row of one of its halves. -/
theorem block_idx (b : Dev nD) (i : S1024x2048.Idx) :
    ∃ (h : Fin 2) (j : S512x2048.Idx), (rWB b).toLoadRect.idx i = (rW b h).toLoadRect.idx j := by
  have h0 : (i 0).val < 1024 := (i 0).isLt
  have h1 : (i 1).val < 2048 := (i 1).isLt
  refine ⟨⟨(i 0).val / 512, by omega⟩, fun a => match a with
    | ⟨0, _⟩ => ⟨(i 0).val % 512, Nat.mod_lt _ (by decide)⟩
    | ⟨1, _⟩ => ⟨(i 1).val, h1⟩, ?_⟩
  funext a
  refine Fin.ext ?_
  match a with
  | ⟨0, _⟩ =>
    show 1024 * b.val + 1 * (i 0).val = 1024 * b.val + 512 * ((i 0).val / 512) + 1 * ((i 0).val % 512)
    omega
  | ⟨1, _⟩ => rfl

/-- A buffer holding both halves of a block holds the block. -/
theorem ws_block (c b : Dev nD) (g : (cc0_scratch3 : Ref sig .tc).ty.Contents (Elt F))
    (hg : ∀ h : Fin 2, wsM.view.readAt (Elt F) (rW b h).toLoadRect g = whalf8 m c b h) :
    wsM.view.readAt (Elt F) (rWB b).toLoadRect g = wblk8 m c b := by
  funext i
  obtain ⟨h, j, e⟩ := block_idx b i
  have hj := congrFun (hg h) j
  rw [View.readAt_apply] at hj ⊢
  rw [e, hj]
  have hw : whalf m c b h j = wM.view.readAt (Elt F) (rWB b).toLoadRect (wbuf m c) i := by
    unfold whalf; rw [View.readAt_apply, View.readAt_apply, e]
  unfold whalf8 wblk8
  exact congrArg (FloatOps.truncf .fp8e5m2 bitsLt_fp8e5m2_f32) hw

theorem pay6_read (f : (cc0_scratch2 : Ref sig .tc).ty.Contents (Elt F)) (h : Fin 2) (v : Vec F S512x2048 .f32)
    (hf : (wbSlot h).view.read (Elt F) f = v) :
    k0_pay6 (wbM.view.readAt (Elt F) (rB h).toLoadRect f) = truncf .fp8e5m2 v bitsLt_fp8e5m2_f32 := by
  subst hf
  exact shapeCast_self _ _

theorem setOn_whole {κ : Kind} (b : Ref sig κ) (M : Finset b.ty.shape.Idx) : (View.whole b : View sig κ _ _ _).setOn M = M :=
  Finset.map_refl

theorem wbSlot_set (k : Fin 2) : ((wbSlot k).view.set : Finset S2x512x2048.Idx) = (rB k).set := by
  simp only [Memref.view_squeeze, View.set_reshape]; exact View.set_slice_whole _ _
theorem wbSlot_load (k : Fin 2) : wbM.view.setOn (rB k).set ⊆ (wbSlot k).view.set :=
  ((setOn_whole _ _).trans (wbSlot_set k).symm).subset

theorem stSlot_set (k : Fin 3) : ((stSlot k).view.set : Finset S3x1024x1024.Idx) = (rS k).set := by
  simp only [Memref.view_squeeze, View.set_reshape]; exact View.set_slice_whole _ _
theorem stSlot_load (k : Fin 3) : stM.view.setOn (rS k).set ⊆ (stSlot k).view.set :=
  ((setOn_whole _ _).trans (stSlot_set k).symm).subset

theorem rvSlot_set (k : Fin 3) : ((rvSlot k).view.set : Finset S3x1024x1024.Idx) = (rS k).set := by
  simp only [Memref.view_squeeze, View.set_reshape]; exact View.set_slice_whole _ _
theorem rvSlot_load (k : Fin 3) : rvM.view.setOn (rS k).set ⊆ (rvSlot k).view.set :=
  ((setOn_whole _ _).trans (rvSlot_set k).symm).subset
theorem stSlot_store (k : Fin 3) : (stM.access (rS k)).setOn Finset.univ ⊆ (stSlot k).view.set :=
  ((View.set_slice_whole _ _).trans (stSlot_set k).symm).subset
theorem stSlot_read (k : Fin 3) (f : (cc0_scratch0 : Ref sig .tc).ty.Contents (Elt F)) :
    (stSlot k).view.read (Elt F) f = k0_pay12 (stM.view.readAt (Elt F) (rS k).toLoadRect f) := rfl
theorem rvSlot_read (k : Fin 3) (f : (cc0_scratch1 : Ref sig .tc).ty.Contents (Elt F)) :
    (rvSlot k).view.read (Elt F) f = k0_pay12 (rvM.view.readAt (Elt F) (rS k).toLoadRect f) := rfl
theorem stSlot_written (k : Fin 3) (f : (cc0_scratch0 : Ref sig .tc).ty.Contents (Elt F)) (w : Vec F S1x1024x1024 .fp8e4m3) :
    stM.view.readAt (Elt F) (rS k).toLoadRect ((stM.access (rS k)).write (Elt F) f w Finset.univ) = w := View.read_write_univ _ _
theorem stSlot_put (k : Fin 3) (f : (cc0_scratch0 : Ref sig .tc).ty.Contents (Elt F)) (w : Vec F S1x1024x1024 .fp8e4m3) :
    (stSlot k).view.read (Elt F) ((stM.access (rS k)).write (Elt F) f w Finset.univ) = k0_pay12 w := by
  refine (stSlot_read k _).trans ?_
  rw [stSlot_written]
theorem rvSlot_put (k : Fin 3) (f : (cc0_scratch1 : Ref sig .tc).ty.Contents (Elt F)) (w : Vec F S1024x1024 .fp8e4m3) :
    (rvSlot k).view.read (Elt F) ((rvSlot k).view.write (Elt F) f w Finset.univ) = w := View.read_write_univ _ _
theorem slot_credit (k : Fin 3) (s : DmaSem sig) : (rvSlot k).view.amount (.dma s) = N := rfl
theorem sent_lands (c : Dev nD) (k : Fin 3) (f : Buf (Elt F) ((c : Thread nD τ).loc cc0_scratch0)) (hf : (stSlot k).view.read (Elt F) f = sent m ρ c k)
    (fn : Buf (Elt F) ((sh (k.val + 1) c : Thread nD τ).loc cc0_scratch1)) :
    ((rvSlot k).view.loc (sh (k.val + 1) c : Thread nD τ) ↦[(rvSlot k).view.set]{fullShare}
        ((rvSlot k).view.write (Elt F) fn ((stSlot k).view.read (Elt F) f) Finset.univ) : sProp 𝕄)
      ⊢ recvPay m ρ (sh (k.val + 1) c) k := by
  unfold recvPay rvPts
  iintro H
  iexists ((rvSlot k).view.write (Elt F) fn ((stSlot k).view.read (Elt F) f) Finset.univ)
  isplitr
  · ipureintro
    rw [rvSlot_put, sh_rev, hf]
  iexact H

/-- A half narrowed into place. -/
theorem wp_convert (c b : Dev nD) (h : Fin 2) (l : List (Dev nD × Fin 2)) (off : Fin 2 → ℕ) (hoff : off = ![1024 * b.val + 512 * h.val, 0])
    (pay : Vec F S1x512x2048 .f32 → Vec F S512x2048 .fp8e5m2) (hpay : pay = k0_pay6)
    {inb inb' : ∀ a, off a + S512x2048.size a ≤ S4096x2048.size a}
    {hl : wbM.view.LoadsAt (rB h).toLoadRect}
    {hl' : wsM.view.LoadsAt (Rect.unit (s := S4096x2048) off S512x2048.size inb).toLoadRect}
    {hx : (wsM.access (Rect.unit (s := S4096x2048) off S512x2048.size inb')).Stores Finset.univ}
    {hm : (Finset.univ : Finset S512x2048.Idx) = Finset.univ ∨ ∀ a, (Rect.unit (s := S4096x2048) off S512x2048.size inb').stride a = 1}
    {α : Type} {Q : α → sProp 𝕄} {k : PUnit → Prog (TpuEff nD τ sig (Elt F) Λ₀ .tc) α} :
    iprop(Landed m c h b ∗ WsHas m c l)
      ⊢ iprop((iprop(wbFree c h ∗ WsHas m c ((b, h) :: l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.load wbM (rB h).toLoadRect hl) fun v => .op (.load wsM (Rect.unit (s := S4096x2048) off S512x2048.size inb).toLoadRect hl') fun _ =>
                .op (.store wsM (Rect.unit (s := S4096x2048) off S512x2048.size inb') (pay v) Finset.univ hx hm) k) Q) := by
  subst hoff hpay
  unfold Landed WsHas wbPts
  iintro ⟨⟨%f, %hf, Hb⟩, ⟨%g, %hg, Hs⟩⟩ Hk
  iapply (wp_load 𝒱₀ (c : Thread nD τ) none Set.univ (m := wbM) (S := (wbSlot h).view.set) (wbSlot_load h)) $$ Hb
  iintro Hb
  iapply (wp_load 𝒱₀ (c : Thread nD τ) none Set.univ (m := wsM) (Finset.subset_univ _)) $$ Hs
  iintro Hs
  iapply (wp_store 𝒱₀ (c : Thread nD τ) none Set.univ (m := wsM) (r := rW b h) (Mk := Finset.univ) (Finset.subset_univ _)) $$ Hs
  iintro Hs
  iapply Hk
  isplitl [Hb]
  · unfold wbFree wbPts; iexists f; iexact Hb
  iexists _
  isplitr
  swap
  · iexact Hs
  ipureintro
  intro p hp
  rw [ws_write]
  by_cases hq : (b, h) = (p.1, p.2)
  · rw [if_pos hq, pay6_read f h _ hf]
    obtain ⟨rfl, rfl⟩ := Prod.mk.inj hq
    rfl
  · rw [if_neg hq]
    exact hg p ((List.mem_cons.mp hp).resolve_left fun e => hq e.symm)

/-- A block of narrowed rows read. -/
theorem wp_block (c b : Dev nD) (l : List (Dev nD × Fin 2)) (hl0 : (b, 0) ∈ l) (hl1 : (b, 1) ∈ l) (off : Fin 2 → ℕ) (hoff : off = ![1024 * b.val, 0])
    {inb : ∀ a, off a + S1024x2048.size a ≤ S4096x2048.size a}
    {hl : wsM.view.LoadsAt (Rect.unit (s := S4096x2048) off S1024x2048.size inb).toLoadRect}
    {α : Type} {Q : α → sProp 𝕄} {k : Vec F S1024x2048 .fp8e5m2 → Prog (TpuEff nD τ sig (Elt F) Λ₀ .tc) α} :
    WsHas m c l
      ⊢ iprop((WsHas m c l -∗ wp frame (wpE (defs₀ (F := F)) 𝒱₀ (c : Thread nD τ) none) Set.univ (k (wblk8 m c b)) Q)
          -∗ wp frame (wpE (defs₀ (F := F)) 𝒱₀ (c : Thread nD τ) none) Set.univ
              (.op (.load wsM (Rect.unit (s := S4096x2048) off S1024x2048.size inb).toLoadRect hl) k) Q) := by
  subst hoff
  unfold WsHas
  iintro ⟨%g, %hg, Hs⟩ Hk
  iapply (wp_load 𝒱₀ (c : Thread nD τ) none Set.univ (m := wsM) (Finset.subset_univ _)) $$ Hs
  iintro Hs
  rw [ws_block m c b g (fun h => by
    match h with
    | ⟨0, _⟩ => exact hg (b, 0) hl0
    | ⟨1, _⟩ => exact hg (b, 1) hl1)]
  iapply Hk
  iexists g
  isplitr
  · ipureintro; exact hg
  iexact Hs

/-! ## The staged input and the result -/

def xAt (c : Dev nD) : sProp 𝕄 := ((c : Thread nD τ).loc cc0_stg0_0) ↦{fullShare} xstg m ρ c
def sxAt (c : Dev nD) : sProp 𝕄 := ((c : Thread nD τ).loc cc0_stg1_0) ↦{fullShare} sxstg m ρ c
def swAt (c : Dev nD) : sProp 𝕄 := ((c : Thread nD τ).loc cc0_stg2_0) ↦{fullShare} swstg m ρ c
/-- The result's buffer holding `y`. -/
def oAt (c : Dev nD) (y : Vec F S1024x2048 .f32) : sProp 𝕄 := ((c : Thread nD τ).loc cc0_stg3_0) ↦{fullShare} y

/-- A block of `x` read. -/
theorem wp_xload (c b : Dev nD) (off : Fin 2 → ℕ) (hoff : off = ![1024 * b.val, 0])
    {inb : ∀ a, off a + S1024x1024.size a ≤ S4096x1024.size a}
    {hl : xM.view.LoadsAt (Rect.unit (s := S4096x1024) off S1024x1024.size inb).toLoadRect}
    {α : Type} {Q : α → sProp 𝕄} {k : Vec F S1024x1024 .f32 → Prog (TpuEff nD τ sig (Elt F) Λ₀ .tc) α} :
    xAt m ρ c
      ⊢ iprop((xAt m ρ c -∗ wp frame (wpE (defs₀ (F := F)) 𝒱₀ (c : Thread nD τ) none) Set.univ (k (xblk m ρ c b)) Q)
          -∗ wp frame (wpE (defs₀ (F := F)) 𝒱₀ (c : Thread nD τ) none) Set.univ
              (.op (.load xM (Rect.unit (s := S4096x1024) off S1024x1024.size inb).toLoadRect hl) k) Q) := by
  subst hoff
  unfold xAt xblk
  iintro Hx Hk
  iapply (wp_load 𝒱₀ (c : Thread nD τ) none Set.univ (m := xM) (Finset.subset_univ _)) $$ Hx
  iintro Hx
  iapply Hk $$ Hx

theorem hz2 : (![0, 0] : Fin 2 → Nat) = fun _ => 0 := funext fun a => by fin_cases a <;> rfl

/-- The result so far read, -/
theorem wp_oload (c : Dev nD) (y : Vec F S1024x2048 .f32) {inb : ∀ a, (![0, 0] : Fin 2 → ℕ) a + S1024x2048.size a ≤ S1024x2048.size a}
    {hl : oM.view.LoadsAt (Rect.unit (s := S1024x2048) ![0, 0] S1024x2048.size inb).toLoadRect}
    {α : Type} {Q : α → sProp 𝕄} {k : Vec F S1024x2048 .f32 → Prog (TpuEff nD τ sig (Elt F) Λ₀ .tc) α} :
    oAt c y
      ⊢ iprop((oAt c y -∗ wp frame (wpE (defs₀ (F := F)) 𝒱₀ (c : Thread nD τ) none) Set.univ (k y) Q)
          -∗ wp frame (wpE (defs₀ (F := F)) 𝒱₀ (c : Thread nD τ) none) Set.univ
              (.op (.load oM (Rect.unit (s := S1024x2048) ![0, 0] S1024x2048.size inb).toLoadRect hl) k) Q) := by
  unfold oAt
  iintro Ho Hk
  iapply (wp_load 𝒱₀ (c : Thread nD τ) none Set.univ (m := oM) (Finset.subset_univ _)) $$ Ho
  iintro Ho
  rw [show oM.view.readAt (Elt F) (Rect.unit (s := S1024x2048) ![0, 0] S1024x2048.size inb).toLoadRect y = y from
    Memref.readAt_unit_zero (Elt F) cc0_stg3_0 hz2 inb y]
  iapply Hk $$ Ho

/-- and written. -/
theorem wp_ostore (c : Dev nD) (y y' : Vec F S1024x2048 .f32) {inb : ∀ a, (![0, 0] : Fin 2 → ℕ) a + S1024x2048.size a ≤ S1024x2048.size a}
    {hx : (oM.access (Rect.unit (s := S1024x2048) ![0, 0] S1024x2048.size inb)).Stores Finset.univ}
    {hm : (Finset.univ : Finset S1024x2048.Idx) = Finset.univ ∨ ∀ a, (Rect.unit (s := S1024x2048) ![0, 0] S1024x2048.size inb).stride a = 1}
    {α : Type} {Q : α → sProp 𝕄} {k : PUnit → Prog (TpuEff nD τ sig (Elt F) Λ₀ .tc) α} :
    oAt c y
      ⊢ iprop((oAt c y' -∗ wp frame (wpE (defs₀ (F := F)) 𝒱₀ (c : Thread nD τ) none) Set.univ (k ⟨⟩) Q)
          -∗ wp frame (wpE (defs₀ (F := F)) 𝒱₀ (c : Thread nD τ) none) Set.univ
              (.op (.store oM (Rect.unit (s := S1024x2048) ![0, 0] S1024x2048.size inb) y' Finset.univ hx hm) k) Q) := by
  unfold oAt
  iintro Ho Hk
  iapply (wp_store 𝒱₀ (c : Thread nD τ) none Set.univ (m := oM) (r := Rect.unit (s := S1024x2048) ![0, 0] S1024x2048.size inb) (Mk := Finset.univ)
    (Finset.subset_univ _)) $$ Ho
  iintro Ho
  iapply Hk
  rw [show (oM.access (Rect.unit (s := S1024x2048) ![0, 0] S1024x2048.size inb)).write (Elt F) y y' Finset.univ = y' from
    Memref.write_access_unit_zero_univ (Elt F) cc0_stg3_0 hz2 inb y y']
  iexact Ho

/-! ## The transfers between devices -/

/-- The receive slot `k` holding anything, -/
def rvFree (c : Dev nD) (k : Fin 3) : sProp 𝕄 := iprop(∃ f, rvPts (F := F) c k f)
/-- the send slot `k` holding what is to be sent. -/
def StHas (c : Dev nD) (k : Fin 3) : sProp 𝕄 :=
  iprop(∃ f, ⌜(stSlot k).view.read (Elt F) f = sent m ρ c k⌝ ∗ stPts c k f)

/-- A block put into its send slot. -/
theorem wp_stage (c : Dev nD) (k : Fin 3) (w : Vec F S1x1024x1024 .fp8e4m3) (hw : k0_pay12 w = sent m ρ c k)
    {hl : stM.view.LoadsAt (rS k).toLoadRect} {hx : (stM.access (rS k)).Stores Finset.univ}
    {hm : (Finset.univ : Finset S1x1024x1024.Idx) = Finset.univ ∨ ∀ a, (rS k).stride a = 1}
    {α : Type} {Q : α → sProp 𝕄} {kk : PUnit → Prog (TpuEff nD τ sig (Elt F) Λ₀ .tc) α} :
    sendPay c k
      ⊢ iprop((StHas m ρ c k -∗ wp frame (wpE (defs₀ (F := F)) 𝒱₀ (c : Thread nD τ) none) Set.univ (kk ⟨⟩) Q)
          -∗ wp frame (wpE (defs₀ (F := F)) 𝒱₀ (c : Thread nD τ) none) Set.univ
              (.op (.load stM (rS k).toLoadRect hl) fun _ => .op (.store stM (rS k) w Finset.univ hx hm) kk) Q) := by
  unfold sendPay StHas stPts
  iintro ⟨%f, Hs⟩ Hk
  iapply (wp_load 𝒱₀ (c : Thread nD τ) none Set.univ (m := stM) (S := (stSlot k).view.set) (stSlot_load k)) $$ Hs
  iintro Hs
  iapply (wp_store 𝒱₀ (c : Thread nD τ) none Set.univ (m := stM) (r := rS k) (Mk := Finset.univ) (S := (stSlot k).view.set) (stSlot_store k)) $$ Hs
  iintro Hs
  iapply Hk
  iexists _
  isplitr
  swap
  · iexact Hs
  ipureintro
  exact (stSlot_put k f w).trans hw

theorem wp_send_held (c n : Dev nD) (k : Fin 3) (hn : n = sh (k.val + 1) c)
    {hsc : (rvSlot k : Memref sig (Dev.tc n : Thread nD τ).2.kind .vmem S1024x1024 .fp8e4m3).view.ref.isScScratch = false}
    {hsrc : (stSlot k).view.WordExact} {hdst : (rvSlot k).view.WordExact}
    {hsem : DmaTarget.Typed .vmem (.dma (recvS k)) (.remote (Dev.tc n : Thread nD τ) (rvSlot k) (.dma (sendS k)) hsc)}
    {α : Type} {Q : α → sProp 𝕄} {kk : PUnit → Prog (TpuEff nD τ sig (Elt F) Λ₀ .tc) α}
    (O O' : CellTallies nD τ sig Unit) (hO : O' = O + recvT c k) (W : Waits sig Unit)
    (f : Buf (Elt F) ((c : Thread nD τ).loc cc0_scratch0)) (hf : (stSlot k).view.read (Elt F) f = sent m ρ c k)
    (fn : Buf (Elt F) ((sh (k.val + 1) c : Thread nD τ).loc cc0_scratch1)) :
    iprop(cellInv ER (Rd m ρ) (K (c, some (false, k))) (sendCell c k) ∗ cellInv ER (Rd m ρ) (K (sh (k.val + 1) c, some (true, k))) (recvCell (sh (k.val + 1) c) k)
        ∗ stPts c k f ∗ rvPts (sh (k.val + 1) c) k fn ∗ owes (c : Thread nD τ) O' W
        ∗ dutyTok ER (sendCell c k) 0 0 ∗ reached ER (sendCell c k) 0
        ∗ dutyTok ER (recvCell (sh (k.val + 1) c) k) 0 0 ∗ reached ER (recvCell (sh (k.val + 1) c) k) 0)
      ⊢ iprop((iprop(cred (tallyAt (sendCell c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (stSlot k) (.remote (Dev.tc n : Thread nD τ) (rvSlot k) (.dma (sendS k)) hsc) (.dma (recvS k)) hsrc hdst hsem) kk) Q) := by
  subst hn
  unfold stPts rvPts
  refine Rounds.wp_send_pointsTo 𝒱₀ ER (Rd m ρ) (c : Thread nD τ) none (c' := (sh (k.val + 1) c : Thread nD τ)) (src := stSlot k) (dst := rvSlot k)
    (sS := .dma (sendS k)) (sem := .dma (recvS k)) (hsc := hsc) (hsrc := hsrc) (hdst := hdst) (hsem := hsem) (k := kk) (q := fullShare) (κ₁ := K (c, some (false, k))) (κ₂ := K (sh (k.val + 1) c, some (true, k)))
    (r₁ := 0) (r₂ := 0) (d₁ := 0) (d₂ := 0) (fs := f) (fd := fn)
    ?_ ?_ () () N (slot_credit k (recvS k)) (amount_send m ρ c k 0) (amount_recv m ρ (sh (k.val + 1) c) k 0) O hO (W := W) ?_ ?_
  · rw [duties_send]; exact Finset.mem_singleton_self _
  · rw [duties_recv]; exact Finset.mem_singleton_self _
  · rw [payload_send]; unfold sendPay stPts; iintro H; iexists f; iexact H
  · rw [payload_recv]; exact sent_lands m ρ c k f hf fn

/-- A block sent. -/
theorem wp_send (c n : Dev nD) (k : Fin 3) (hn : n = sh (k.val + 1) c)
    {hsc : (rvSlot k : Memref sig (Dev.tc n : Thread nD τ).2.kind .vmem S1024x1024 .fp8e4m3).view.ref.isScScratch = false}
    {hsrc : (stSlot k).view.WordExact} {hdst : (rvSlot k).view.WordExact}
    {hsem : DmaTarget.Typed .vmem (.dma (recvS k)) (.remote (Dev.tc n : Thread nD τ) (rvSlot k) (.dma (sendS k)) hsc)}
    {α : Type} {Q : α → sProp 𝕄} {kk : PUnit → Prog (TpuEff nD τ sig (Elt F) Λ₀ .tc) α}
    (O O' : CellTallies nD τ sig Unit) (hO : O' = O + recvT c k) (W : Waits sig Unit) :
    iprop(records m ρ K ∗ StHas m ρ c k ∗ rvFree (sh (k.val + 1) c) k ∗ owes (c : Thread nD τ) O' W
        ∗ dutyTok ER (sendCell c k) 0 0 ∗ dutyTok ER (recvCell (sh (k.val + 1) c) k) 0 0)
      ⊢ iprop((iprop(cred (tallyAt (sendCell c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (stSlot k) (.remote (Dev.tc n : Thread nD τ) (rvSlot k) (.dma (sendS k)) hsc) (.dma (recvS k)) hsrc hdst hsem) kk) Q) := by
  iintro ⟨#HR, HS, HV, HO, Ht, Ht'⟩
  ihave #HIs := (records_inv m ρ K (c, some (false, k))) $$ HR
  ihave #HIr := (records_inv m ρ K (sh (k.val + 1) c, some (true, k))) $$ HR
  ihave #Hrs := (records_reached m ρ K (c, some (false, k))) $$ HR
  ihave #Hrr := (records_reached m ρ K (sh (k.val + 1) c, some (true, k))) $$ HR
  unfold StHas rvFree
  icases HS with ⟨%f, %hf, HS⟩
  icases HV with ⟨%fn, HV⟩
  iapply (wp_send_held m ρ K c n k hn O O' hO W f hf fn (hsc := hsc) (hsrc := hsrc) (hdst := hdst) (hsem := hsem) (kk := kk) (Q := Q))
  isplitr; · iexact HIs
  isplitr; · iexact HIr
  isplitl [HS]; · iexact HS
  isplitl [HV]; · iexact HV
  isplitl [HO]; · iexact HO
  isplitl [Ht]; · iexact Ht
  isplitr; · iexact Hrs
  isplitl [Ht']; · iexact Ht'
  iexact Hrr

/-- A block received: the slot holding what was sent, and the device past its receive cell. -/
theorem wp_receive (c : Dev nD) (k : Fin 3) {s' : Shape} {e' : EltTy} {sp' : Space} {src : Memref sig .tc sp' s' e'}
    {hsrc : src.view.WordExact} {hdst : (rvSlot k).view.WordExact}
    {α : Type} {Q : α → sProp 𝕄} {kk : PUnit → Prog (TpuEff nD τ sig (Elt F) Λ₀ .tc) α} :
    iprop(records m ρ K ∗ cred (tallyAt (recvCell c k) () N) ∗ atPos ER (recvCell c k) 0 ∅ 0 ∗ Ow c)
      ⊢ iprop((iprop(recvPay m ρ c k ∗ atPos ER (recvCell c k) (0 + 1) ∅ 0 ∗ Ow c) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (recvS k) src (rvSlot k) hsrc hdst) kk) Q) := by
  unfold Ow
  iintro ⟨#HR, Hc, Ha, ⟨%W, HO⟩⟩ Hk
  ihave #HI := (records_inv m ρ K (c, some (true, k))) $$ HR
  iapply (Rounds.wp_wait_rest_token 𝒱₀ ER (Rd m ρ) (c : Thread nD τ) none (κ := K (c, some (true, k)))
      (wpE_waitDma2_eq 𝒱₀ (c : Thread nD τ) none Set.univ) (Set.mem_univ _) () (O := 0) (W := W) (R := 0) (m := 0) (T := ∅)
      (by rw [Nat.zero_add, expect_recv])) $$ [Hc HO Ha]
  · isplitr; · iexact HI
    isplitl [Hc]; · iexact Hc
    isplitl [HO]; · iexact HO
    isplitr; · rw [MayWait_zero]; iempintro
    iexact Ha
  iintro ⟨HO, Ha, -, Hpay⟩
  ihave Hp := (Entails.of_eq (rest_recv m ρ c k)) $$ Hpay
  iapply Hk
  isplitl [Hp]; · iexact Hp
  isplitl [Ha]; · iexact Ha
  iexists _; iexact HO

/-- A sent block's slot back: the device past its send cell. -/
theorem wp_sentBack (c : Dev nD) (k : Fin 3) {s' : Shape} {e' : EltTy} {sp' : Space} {src : Memref sig .tc sp' s' e'}
    {dst : Memref sig .tc .vmem S1024x1024 .fp8e4m3} (hN : dst.view.dmaCredit = N)
    {hsrc : src.view.WordExact} {hdst : dst.view.WordExact}
    {α : Type} {Q : α → sProp 𝕄} {kk : PUnit → Prog (TpuEff nD τ sig (Elt F) Λ₀ .tc) α} :
    iprop(records m ρ K ∗ cred (tallyAt (sendCell c k) () N) ∗ atPos ER (sendCell c k) 0 ∅ 0 ∗ Ow c)
      ⊢ iprop((iprop(sendPay c k ∗ atPos ER (sendCell c k) (0 + 1) ∅ 0 ∗ Ow c) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sendS k) src dst hsrc hdst) kk) Q) := by
  unfold Ow
  iintro ⟨#HR, Hc, Ha, ⟨%W, HO⟩⟩ Hk
  ihave #HI := (records_inv m ρ K (c, some (false, k))) $$ HR
  rw [← hN]
  iapply (Rounds.wp_wait_rest_token 𝒱₀ ER (Rd m ρ) (c : Thread nD τ) none (κ := K (c, some (false, k)))
      (wpE_waitDma2_eq 𝒱₀ (c : Thread nD τ) none Set.univ) (Set.mem_univ _) () (O := 0) (W := W) (R := 0) (m := 0) (T := ∅)
      (by rw [Nat.zero_add, expect_send, hN])) $$ [Hc HO Ha]
  · isplitr; · iexact HI
    isplitl [Hc]; · iexact Hc
    isplitl [HO]; · iexact HO
    isplitr; · rw [MayWait_zero]; iempintro
    iexact Ha
  iintro ⟨HO, Ha, -, Hpay⟩
  ihave Hp := (Entails.of_eq (rest_send m ρ c k)) $$ Hpay
  iapply Hk
  isplitl [Hp]; · iexact Hp
  isplitl [Ha]; · iexact Ha
  iexists _; iexact HO

/-- A received block read. -/
theorem wp_rload (c : Dev nD) (k : Fin 3) {hl : rvM.view.LoadsAt (rS k).toLoadRect}
    {α : Type} {Q : α → sProp 𝕄} {kk : Vec F S1x1024x1024 .fp8e4m3 → Prog (TpuEff nD τ sig (Elt F) Λ₀ .tc) α} :
    recvPay m ρ c k
      ⊢ iprop((∀ v, ⌜k0_pay12 v = sent m ρ (sh (k.rev.val + 1) c) k⌝ -∗ rvFree c k -∗ wp frame (wpE (defs₀ (F := F)) 𝒱₀ (c : Thread nD τ) none) Set.univ (kk v) Q)
          -∗ wp frame (wpE (defs₀ (F := F)) 𝒱₀ (c : Thread nD τ) none) Set.univ (.op (.load rvM (rS k).toLoadRect hl) kk) Q) := by
  unfold recvPay rvPts
  iintro ⟨%f, %hf, Hr⟩ Hk
  iapply (wp_load 𝒱₀ (c : Thread nD τ) none Set.univ (m := rvM) (S := (rvSlot k).view.set) (rvSlot_load k)) $$ Hr
  iintro Hr
  iapply Hk
  · ipureintro; exact hf
  unfold rvFree rvPts
  iexists f; iexact Hr

end Cert.KernelIdeal.Run
-- ==== Proof.KernelIdealBody.lean ====
/-
# The body

The kernel's body, run once at a device `c` that stays a variable: one lemma for each of the parts it is printed in, from
what the part starts with to what it leaves, and the whole from these. The offsets the program computes are named first by
the blocks they are.
-/
module

public import proofs.«01_k».proof.Proof.KernelIdealSteps

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-! ## The blocks the computed offsets are -/

/-- The device whose block of columns arrives in receive slot `k`. -/
abbrev src (c : Dev nD) (k : Fin 3) : Dev nD := sh (k.rev.val + 1) c

theorem off1_at (c : Dev nD) (h : Fin 2) : k0_off1 c (BitVec.ofNat 32 (512 * h.val)) = ![1024 * c.val + 512 * h.val, 0] := k0_off1_eq c h
theorem off3_at (c : Dev nD) (h : Fin 2) : k0_off3 c (BitVec.ofNat 32 (512 * h.val)) = ![1024 * c.val + 512 * h.val, 0] := k0_off3_eq c h
theorem off5_at (c : Dev nD) : k0_off5 c = ![1024 * c.val, 0] := k0_off5_eq c
theorem off6_at (c : Dev nD) : k0_off6 c = ![1024 * c.val, 0] := k0_off6_eq c
theorem off2_at (c : Dev nD) (k : Fin 3) : k0_off2 c (BitVec.ofNat 32 (1 + k.val)) = ![1024 * (sh (k.val + 1) c).val, 0] := by
  rw [k0_off2_eq]; rfl
theorem src_val (c : Dev nD) (k : Fin 3) : (src c k).val = ((c.val + 3) - k.val) % 4 := by revert c k; decide
theorem off4_at (c : Dev nD) (k : Fin 3) (h : Fin 2) :
    k0_off4 c (BitVec.ofNat 32 (1 + k.val)) (BitVec.ofNat 32 (512 * h.val)) = ![1024 * (src c k).val + 512 * h.val, 0] := by
  rw [k0_off4_eq, src_val]
theorem off7_at (c : Dev nD) (k : Fin 3) (h : Fin 2) :
    k0_off7 c (BitVec.ofNat 32 (1 + k.val)) (BitVec.ofNat 32 (512 * h.val)) = ![1024 * (src c k).val + 512 * h.val, 0] := by
  rw [k0_off7_eq, src_val]
theorem off8_at (c : Dev nD) (k : Fin 3) : k0_off8 c (BitVec.ofNat 32 (1 + k.val)) = ![1024 * (src c k).val, 0] := by
  rw [k0_off8_eq, src_val]

/-! ## The barrier -/

/-- A signal to the device `k + 1` ahead: it hands over the slot that device will write. -/
theorem wp_signal_ahead (c n : Dev nD) (k : Fin 3) (hn : n = sh (k.val + 1) c)
    {α : Type} {Q : α → sProp 𝕄} {kk : PUnit → Prog (TpuEff nD τ sig (Elt F) Λ₀ .tc) α}
    (O O' : CellTallies nD τ sig Unit) (hO : O' = O + barT c k) (W : Waits sig Unit) :
    iprop(records m ρ K ∗ owes (c : Thread nD τ) O' W ∗ dutyTok ER (barCell (sh (k.val + 1) c)) 0 k ∗ rvFree (F := F) c k.rev)
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ
              (.op (.semSignal (n : Thread nD τ) barS (1#32 : BitVec 32).toInt) kk) Q) := by
  subst hn
  rw [show (1#32 : BitVec 32).toInt = ((1 : ℕ) : ℤ) from rfl]
  iintro ⟨#HR, HO, Ht, HV⟩ Hk
  ihave #HI := (records_inv m ρ K (sh (k.val + 1) c, none)) $$ HR
  ihave #Hr := (records_reached m ρ K (sh (k.val + 1) c, none)) $$ HR
  ihave #Hr' := (records_reached m ρ K (c, some (true, k.rev))) $$ HR
  iapply (Rounds.wp_signal 𝒱₀ ER (Rd m ρ) (c : Thread nD τ) none (dst := (sh (k.val + 1) c : Thread nD τ)) (κ := K (sh (k.val + 1) c, none))
      (d := k) (by rw [duties_bar]; exact Finset.mem_univ _) (amount_bar m ρ (sh (k.val + 1) c) k) () O hO) $$ [HO Ht HV]
  · isplitr; · iexact HI
    isplitl [HO]; · iexact HO
    isplitl [Ht]; · iexact Ht
    isplitl [HV]
    · rw [payload_bar]; unfold barPay; rw [sh_rev]
      isplitl [HV]; · unfold rvFree; iexact HV
      iexact Hr'
    iexact Hr
  iexact Hk

/-- The wait for the three others: their slots come with it. -/
theorem wp_barrier (c : Dev nD)
    {α : Type} {Q : α → sProp 𝕄} {kk : PUnit → Prog (TpuEff nD τ sig (Elt F) Λ₀ .tc) α} (W : Waits sig Unit) :
    iprop(records m ρ K ∗ levAts L lv ∗ cred (tallyAt (barCell c) () 3) ∗ owes (c : Thread nD τ) (O₁ c) W ∗ atPos ER (barCell c) 0 ∅ 0)
      ⊢ iprop((iprop((∃ W, owes (c : Thread nD τ) (O₁ c) W) ∗ atPos ER (barCell c) (0 + 1) ∅ 0
              ∗ rvFree (sh (0 + 1) c) 0 ∗ rvFree (sh (1 + 1) c) 1 ∗ rvFree (sh (2 + 1) c) 2)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS (3#32 : BitVec 32).toInt) kk) Q) := by
  rw [show (3#32 : BitVec 32).toInt = ((3 : ℕ) : ℤ) from rfl]
  iintro ⟨#HR, #Hlev, Hc, HO, Ha⟩ Hk
  ihave #HI := (records_inv m ρ K (c, none)) $$ HR
  iapply (Rounds.wp_wait_rest_token 𝒱₀ ER (Rd m ρ) (c : Thread nD τ) none (κ := K (c, none))
      (wpE_semWait_eq 𝒱₀ (c : Thread nD τ) none Set.univ) (Set.mem_univ _) () (O := O₁ c) (W := W) (R := 0) (m := 0) (T := ∅)
      (by rw [expect_bar])) $$ [Hc HO Ha]
  · isplitr; · iexact HI
    isplitl [Hc]; · iexact Hc
    isplitl [HO]; · iexact HO
    isplitr; · iapply (mayWait_bar c); iexact Hlev
    iexact Ha
  iintro ⟨HO, Ha, -, Hpay⟩
  ihave Hp := (Entails.of_eq (rest_bar m ρ c)) $$ Hpay
  unfold barPay
  icases Hp with ⟨⟨H2, -⟩, ⟨H1, -⟩, ⟨H0, -⟩⟩
  iapply Hk
  isplitl [HO]; · iexists _; iexact HO
  isplitl [Ha]; · iexact Ha
  unfold rvFree
  isplitl [H0]; · iexact H0
  isplitl [H1]; · iexact H1
  iexact H2

/-! ## The scales -/

abbrev sxM : Memref sig .tc .smem S1 .f32 := Memref.whole cc0_stg1_0
abbrev swM : Memref sig .tc .smem S1 .f32 := Memref.whole cc0_stg2_0
theorem hz1 : (![0] : Fin 1 → Nat) = fun _ => 0 := funext fun a => by fin_cases a; rfl

/-- The one number of a one-element array. -/
abbrev word (v : Vec F S1 .f32) : F .f32 := v (Shape.Idx.first (numel1_S1.symm ▸ Nat.one_pos))

theorem wp_sx (c : Dev nD) {inb : ∀ a, (![0] : Fin 1 → ℕ) a + S1.size a ≤ S1.size a}
    {hl : sxM.view.LoadsAt (Rect.unit (s := S1) ![0] S1.size inb).toLoadRect}
    {α : Type} {Q : α → sProp 𝕄} {k : Vec F S1 .f32 → Prog (TpuEff nD τ sig (Elt F) Λ₀ .tc) α} :
    sxAt m ρ c
      ⊢ iprop((sxAt m ρ c -∗ wp frame (wpE (defs₀ (F := F)) 𝒱₀ (c : Thread nD τ) none) Set.univ (k (sxstg m ρ c)) Q)
          -∗ wp frame (wpE (defs₀ (F := F)) 𝒱₀ (c : Thread nD τ) none) Set.univ
              (.op (.load sxM (Rect.unit (s := S1) ![0] S1.size inb).toLoadRect hl) k) Q) := by
  unfold sxAt
  iintro Ho Hk
  iapply (wp_load 𝒱₀ (c : Thread nD τ) none Set.univ (m := sxM) (Finset.subset_univ _)) $$ Ho
  iintro Ho
  rw [show sxM.view.readAt (Elt F) (Rect.unit (s := S1) ![0] S1.size inb).toLoadRect (sxstg m ρ c) = sxstg m ρ c from
    Memref.readAt_unit_zero (Elt F) cc0_stg1_0 hz1 inb _]
  iapply Hk $$ Ho
theorem wp_sw (c : Dev nD) {inb : ∀ a, (![0] : Fin 1 → ℕ) a + S1.size a ≤ S1.size a}
    {hl : swM.view.LoadsAt (Rect.unit (s := S1) ![0] S1.size inb).toLoadRect}
    {α : Type} {Q : α → sProp 𝕄} {k : Vec F S1 .f32 → Prog (TpuEff nD τ sig (Elt F) Λ₀ .tc) α} :
    swAt m ρ c
      ⊢ iprop((swAt m ρ c -∗ wp frame (wpE (defs₀ (F := F)) 𝒱₀ (c : Thread nD τ) none) Set.univ (k (swstg m ρ c)) Q)
          -∗ wp frame (wpE (defs₀ (F := F)) 𝒱₀ (c : Thread nD τ) none) Set.univ
              (.op (.load swM (Rect.unit (s := S1) ![0] S1.size inb).toLoadRect hl) k) Q) := by
  unfold swAt
  iintro Ho Hk
  iapply (wp_load 𝒱₀ (c : Thread nD τ) none Set.univ (m := swM) (Finset.subset_univ _)) $$ Ho
  iintro Ho
  rw [show swM.view.readAt (Elt F) (Rect.unit (s := S1) ![0] S1.size inb).toLoadRect (swstg m ρ c) = swstg m ρ c from
    Memref.readAt_unit_zero (Elt F) cc0_stg2_0 hz1 inb _]
  iapply Hk $$ Ho

/-! ## The result -/

/-- The two scales' product, -/
abbrev scale (c : Dev nD) : F .f32 := k0_pay5 (word (sxstg m ρ c)) (word (swstg m ρ c))
/-- the result after the device's own block, -/
def acc1 (c : Dev nD) : Vec F S1024x2048 .f32 := k0_pay9 (k0_pay8 (xblk m ρ c c)) (wblk8 m c c)
/-- after each block received, -/
def acc2 (c : Dev nD) : Vec F S1024x2048 .f32 := k0_pay13 (sent m ρ (src c 0) 0) (wblk8 m c (src c 0)) (acc1 m ρ c)
def acc3 (c : Dev nD) : Vec F S1024x2048 .f32 := k0_pay13 (sent m ρ (src c 2) 2) (wblk8 m c (src c 2)) (acc2 m ρ c)
def acc4 (c : Dev nD) : Vec F S1024x2048 .f32 := k0_pay13 (sent m ρ (src c 1) 1) (wblk8 m c (src c 1)) (acc3 m ρ c)
/-- and scaled, the negative ones at zero. -/
def fin (s : F .f32) (y : Vec F S1024x2048 .f32) : Vec F S1024x2048 .f32 :=
  maximumf (mulf y (broadcast S1024x2048 s)) (broadcast S1024x2048 (Scalar.ofBits .f32 0x00000000#32))
def outAt (c : Dev nD) : Vec F S1024x2048 .f32 := fin (scale m ρ c) (acc4 m ρ c)

/-! ## The parts -/

abbrev part1 := k0_part1 (F := F) xM (Memref.isWhole_whole _) wM (Memref.isWhole_whole _) sxM (Memref.isWhole_whole _) swM (Memref.isWhole_whole _) oM (Memref.isWhole_whole _) stM (Memref.isWhole_whole _) rvM (Memref.isWhole_whole _) wbM (Memref.isWhole_whole _) wsM (Memref.isWhole_whole _) cc0_scratch4 cc0_scratch5 cc0_scratch6
abbrev part2 := k0_part2 (F := F) xM (Memref.isWhole_whole _) wM (Memref.isWhole_whole _) sxM (Memref.isWhole_whole _) swM (Memref.isWhole_whole _) oM (Memref.isWhole_whole _) stM (Memref.isWhole_whole _) rvM (Memref.isWhole_whole _) wbM (Memref.isWhole_whole _) wsM (Memref.isWhole_whole _) cc0_scratch4 cc0_scratch5 cc0_scratch6
abbrev part3 := k0_part3 (F := F) xM (Memref.isWhole_whole _) wM (Memref.isWhole_whole _) sxM (Memref.isWhole_whole _) swM (Memref.isWhole_whole _) oM (Memref.isWhole_whole _) stM (Memref.isWhole_whole _) rvM (Memref.isWhole_whole _) wbM (Memref.isWhole_whole _) wsM (Memref.isWhole_whole _) cc0_scratch4 cc0_scratch5 cc0_scratch6
abbrev part4 := k0_part4 (F := F) xM (Memref.isWhole_whole _) wM (Memref.isWhole_whole _) sxM (Memref.isWhole_whole _) swM (Memref.isWhole_whole _) oM (Memref.isWhole_whole _) stM (Memref.isWhole_whole _) rvM (Memref.isWhole_whole _) wbM (Memref.isWhole_whole _) wsM (Memref.isWhole_whole _) cc0_scratch4 cc0_scratch5 cc0_scratch6
abbrev part5 := k0_part5 (F := F) xM (Memref.isWhole_whole _) wM (Memref.isWhole_whole _) sxM (Memref.isWhole_whole _) swM (Memref.isWhole_whole _) oM (Memref.isWhole_whole _) stM (Memref.isWhole_whole _) rvM (Memref.isWhole_whole _) wbM (Memref.isWhole_whole _) wsM (Memref.isWhole_whole _) cc0_scratch4 cc0_scratch5 cc0_scratch6
abbrev part6 := k0_part6 (F := F) xM (Memref.isWhole_whole _) wM (Memref.isWhole_whole _) sxM (Memref.isWhole_whole _) swM (Memref.isWhole_whole _) oM (Memref.isWhole_whole _) stM (Memref.isWhole_whole _) rvM (Memref.isWhole_whole _) wbM (Memref.isWhole_whole _) wsM (Memref.isWhole_whole _) cc0_scratch4 cc0_scratch5 cc0_scratch6
abbrev part7 := k0_part7 (F := F) xM (Memref.isWhole_whole _) wM (Memref.isWhole_whole _) sxM (Memref.isWhole_whole _) swM (Memref.isWhole_whole _) oM (Memref.isWhole_whole _) stM (Memref.isWhole_whole _) rvM (Memref.isWhole_whole _) wbM (Memref.isWhole_whole _) wsM (Memref.isWhole_whole _) cc0_scratch4 cc0_scratch5 cc0_scratch6
abbrev part8 := k0_part8 (F := F) xM (Memref.isWhole_whole _) wM (Memref.isWhole_whole _) sxM (Memref.isWhole_whole _) swM (Memref.isWhole_whole _) oM (Memref.isWhole_whole _) stM (Memref.isWhole_whole _) rvM (Memref.isWhole_whole _) wbM (Memref.isWhole_whole _) wsM (Memref.isWhole_whole _) cc0_scratch4 cc0_scratch5 cc0_scratch6
abbrev part9 := k0_part9 (F := F) xM (Memref.isWhole_whole _) wM (Memref.isWhole_whole _) sxM (Memref.isWhole_whole _) swM (Memref.isWhole_whole _) oM (Memref.isWhole_whole _) stM (Memref.isWhole_whole _) rvM (Memref.isWhole_whole _) wbM (Memref.isWhole_whole _) wsM (Memref.isWhole_whole _) cc0_scratch4 cc0_scratch5 cc0_scratch6
abbrev part10 := k0_part10 (F := F) xM (Memref.isWhole_whole _) wM (Memref.isWhole_whole _) sxM (Memref.isWhole_whole _) swM (Memref.isWhole_whole _) oM (Memref.isWhole_whole _) stM (Memref.isWhole_whole _) rvM (Memref.isWhole_whole _) wbM (Memref.isWhole_whole _) wsM (Memref.isWhole_whole _) cc0_scratch4 cc0_scratch5 cc0_scratch6
abbrev part11 := k0_part11 (F := F) xM (Memref.isWhole_whole _) wM (Memref.isWhole_whole _) sxM (Memref.isWhole_whole _) swM (Memref.isWhole_whole _) oM (Memref.isWhole_whole _) stM (Memref.isWhole_whole _) rvM (Memref.isWhole_whole _) wbM (Memref.isWhole_whole _) wsM (Memref.isWhole_whole _) cc0_scratch4 cc0_scratch5 cc0_scratch6

/-- The first two copies issued. -/
theorem part1_spec (c : Dev nD) {Kt : _ → sProp 𝕄} :
    iprop(wAt m c 0 ∗ wbFree (F := F) c 0 ∗ semVal (copyCell c 0) 0 ∗ wAt m c 1 ∗ wbFree (F := F) c 1 ∗ semVal (copyCell c 1) 0)
      ⊢ iprop((∀ v2 v5 v8 v11 v28, iprop(InFl m c 0 (c) ∗ InFl m c 1 (c)) -∗ Kt ⟨c, v2, v5, v8, v11, SemArray.scalar (sig.barrier 0 rfl), v28⟩) -∗ wp frame (wpE (defs₀ (F := F)) 𝒱₀ (c : Thread nD τ) none) Set.univ (part1 ) Kt) := by
  simp only [part1, k0_part1_eq_skeleton]; unfold k0_part1_skel
  simp only [semSignalWord, semWaitWord, smemLoad, smemLoadElt, Prog.lift, Prog.bind_op, Prog.bind_ret, Prog.pure_eq_ret, wp_deviceId]
  iintro ⟨Hw0, Hb0, Hv0, Hw1, Hb1, Hv1⟩ Hk
  iapply (wp_copy m c (c) 0 _ (off1_at c 0)) $$ [Hw0 Hb0 Hv0]
  · isplitl [Hw0]; · iexact Hw0
    isplitl [Hb0] <;> iassumption
  iintro HF0
  iapply (wp_copy m c (c) 1 _ (off1_at c 1)) $$ [Hw1 Hb1 Hv1]
  · isplitl [Hw1]; · iexact Hw1
    isplitl [Hb1] <;> iassumption
  iintro HF1
  rw [wp_ret]; imodintro
  iapply Hk
  isplitl [HF0]; · iexact HF0
  iexact HF1

/-- The barrier, and the first block put into its send slot. -/
theorem part2_spec (c : Dev nD) (v2 v28 : BitVec 32) (W : Waits sig Unit) {Kt : _ → sProp 𝕄} :
    iprop(records m ρ K ∗ levAts L lv ∗ owes (c : Thread nD τ) (O₀ c) W ∗ dutyTok ER (barCell (sh (0 + 1) c)) 0 0 ∗ dutyTok ER (barCell (sh (1 + 1) c)) 0 1 ∗ dutyTok ER (barCell (sh (2 + 1) c)) 0 2 ∗ rvFree (F := F) c 0 ∗ rvFree (F := F) c 1 ∗ rvFree (F := F) c 2 ∗ cred (tallyAt (barCell c) () 3) ∗ atPos ER (barCell c) 0 ∅ 0 ∗ xAt m ρ c ∗ sendPay (F := F) c 0)
      ⊢ iprop((∀ v40, iprop((∃ W, owes (c : Thread nD τ) (O₁ c) W) ∗ atPos ER (barCell c) (0 + 1) ∅ 0 ∗ rvFree (F := F) (sh (0 + 1) c) 0 ∗ rvFree (F := F) (sh (1 + 1) c) 1 ∗ rvFree (F := F) (sh (2 + 1) c) 2 ∗ xAt m ρ c ∗ StHas m ρ c 0) -∗ Kt v40) -∗ wp frame (wpE (defs₀ (F := F)) 𝒱₀ (c : Thread nD τ) none) Set.univ (part2 c v2 (SemArray.scalar (sig.barrier 0 rfl)) v28) Kt) := by
  simp only [part2, k0_part2_eq_skeleton]; unfold k0_part2_skel
  simp only [semSignalWord, semWaitWord, smemLoad, smemLoadElt, Prog.lift, Prog.bind_op, Prog.bind_ret, Prog.pure_eq_ret, wp_deviceId]
  iintro ⟨#HR, #Hlev, HO, Htb0, Htb1, Htb2, HV0, HV1, HV2, Hcb, Hab, Hx, HS0⟩ Hk
  unfold O₀
  iapply (wp_signal_ahead m ρ K c _ 0 (dev1_eq c) (O₁ c + barT c 2 + barT c 1) _ rfl _) $$ [HO Htb0 HV2]
  · isplitr; · iexact HR
    isplitl [HO]; · iexact HO
    isplitl [Htb0]; · iexact Htb0
    iexact HV2
  iintro HO
  iapply (wp_signal_ahead m ρ K c _ 1 (dev2_eq c) (O₁ c + barT c 2) _ rfl _) $$ [HO Htb1 HV1]
  · isplitr; · iexact HR
    isplitl [HO]; · iexact HO
    isplitl [Htb1]; · iexact Htb1
    iexact HV1
  iintro HO
  iapply (wp_signal_ahead m ρ K c _ 2 (dev3_eq c) (O₁ c) _ rfl _) $$ [HO Htb2 HV0]
  · isplitr; · iexact HR
    isplitl [HO]; · iexact HO
    isplitl [Htb2]; · iexact Htb2
    iexact HV0
  iintro HO
  iapply (wp_barrier m ρ K c _) $$ [Hcb HO Hab]
  · isplitr; · iexact HR
    isplitr; · iexact Hlev
    isplitl [Hcb]; · iexact Hcb
    isplitl [HO] <;> iassumption
  iintro ⟨HO, Hab, HV0, HV1, HV2⟩
  iapply (wp_xload m ρ c (sh (0 + 1) c) _ (off2_at c 0)) $$ Hx
  iintro Hx
  iapply (wp_stage m ρ c 0 (k0_pay1 (xblk m ρ c (sh (0 + 1) c))) rfl) $$ HS0
  iintro HS0
  rw [wp_ret]; imodintro
  iapply Hk
  isplitl [HO]; · iexact HO
  isplitl [Hab]; · iexact Hab
  isplitl [HV0]; · iexact HV0
  isplitl [HV1]; · iexact HV1
  isplitl [HV2]; · iexact HV2
  isplitl [Hx]; · iexact Hx
  iexact HS0

/-- The first two blocks sent. -/
theorem part3_spec (c : Dev nD) (v2 : BitVec 32) (W : Waits sig Unit) {Kt : _ → sProp 𝕄} :
    iprop(records m ρ K ∗ owes (c : Thread nD τ) (O₁ c) W ∗ dutyTok ER (sendCell c 0) 0 0 ∗ dutyTok ER (recvCell (sh (0 + 1) c) 0) 0 0 ∗ dutyTok ER (sendCell c 1) 0 0 ∗ dutyTok ER (recvCell (sh (1 + 1) c) 1) 0 0 ∗ rvFree (F := F) (sh (0 + 1) c) 0 ∗ rvFree (F := F) (sh (1 + 1) c) 1 ∗ StHas m ρ c 0 ∗ sendPay (F := F) c 1 ∗ xAt m ρ c)
      ⊢ iprop((∀ v60 v80, iprop(owes (c : Thread nD τ) (O₃ c) W ∗ cred (tallyAt (sendCell c 0) () N) ∗ cred (tallyAt (sendCell c 1) () N) ∗ xAt m ρ c) -∗ Kt ⟨v60, v80, k0_pay3 (xblk m ρ c (sh (2 + 1) c))⟩) -∗ wp frame (wpE (defs₀ (F := F)) 𝒱₀ (c : Thread nD τ) none) Set.univ (part3 c v2) Kt) := by
  simp only [part3, k0_part3_eq_skeleton]; unfold k0_part3_skel
  simp only [semSignalWord, semWaitWord, smemLoad, smemLoadElt, Prog.lift, Prog.bind_op, Prog.bind_ret, Prog.pure_eq_ret, wp_deviceId]
  iintro ⟨#HR, HO, Hts0, Htv0, Hts1, Htv1, HV0, HV1, HS0, HS1, Hx⟩ Hk
  iapply (wp_send m ρ K c _ 0 (dev4_eq c) (O₂ c) (O₁ c) rfl _) $$ [HS0 HV0 HO Hts0 Htv0]
  · isplitr; · iexact HR
    isplitl [HS0]; · iexact HS0
    isplitl [HV0]; · iexact HV0
    isplitl [HO]; · iexact HO
    isplitl [Hts0]; · iexact Hts0
    iexact Htv0
  iintro ⟨Hcs0, HO⟩
  iapply (wp_xload m ρ c (sh (1 + 1) c) _ (off2_at c 1)) $$ Hx
  iintro Hx
  iapply (wp_stage m ρ c 1 (k0_pay2 (xblk m ρ c (sh (1 + 1) c))) rfl) $$ HS1
  iintro HS1
  iapply (wp_send m ρ K c _ 1 (dev5_eq c) (O₃ c) (O₂ c) rfl _) $$ [HS1 HV1 HO Hts1 Htv1]
  · isplitr; · iexact HR
    isplitl [HS1]; · iexact HS1
    isplitl [HV1]; · iexact HV1
    isplitl [HO]; · iexact HO
    isplitl [Hts1]; · iexact Hts1
    iexact Htv1
  iintro ⟨Hcs1, HO⟩
  iapply (wp_xload m ρ c (sh (2 + 1) c) _ (off2_at c 2)) $$ Hx
  iintro Hx
  rw [wp_ret]; imodintro
  iapply Hk
  isplitl [HO]; · iexact HO
  isplitl [Hcs0]; · iexact Hcs0
  isplitl [Hcs1]; · iexact Hcs1
  iexact Hx

/-- The last block sent, the scales read, the first half of the own block narrowed. -/
theorem part4_spec (c : Dev nD) (v2 v5 v80 : BitVec 32) (W : Waits sig Unit) {Kt : _ → sProp 𝕄} :
    iprop(records m ρ K ∗ owes (c : Thread nD τ) (O₃ c) W ∗ dutyTok ER (sendCell c 2) 0 0 ∗ dutyTok ER (recvCell (sh (2 + 1) c) 2) 0 0 ∗ rvFree (F := F) (sh (2 + 1) c) 2 ∗ sendPay (F := F) c 2 ∗ sxAt m ρ c ∗ swAt m ρ c ∗ InFl m c 0 (c) ∗ WsHas m c [])
      ⊢ iprop((∀ v116 w, iprop(Ow (F := F) c ∗ cred (tallyAt (sendCell c 2) () N) ∗ sxAt m ρ c ∗ swAt m ρ c ∗ wAt m c 0 ∗ wbFree (F := F) c 0 ∗ semVal (copyCell c 0) 0 ∗ WsHas m c [(c, 0)]) -∗ Kt ⟨scale m ρ c, v116, w⟩) -∗ wp frame (wpE (defs₀ (F := F)) 𝒱₀ (c : Thread nD τ) none) Set.univ (part4 c v2 v5 v80 (k0_pay3 (xblk m ρ c (sh (2 + 1) c)))) Kt) := by
  simp only [part4, k0_part4_eq_skeleton]; unfold k0_part4_skel
  simp only [semSignalWord, semWaitWord, smemLoad, smemLoadElt, Prog.lift, Prog.bind_op, Prog.bind_ret, Prog.pure_eq_ret, wp_deviceId]
  iintro ⟨#HR, HO, Hts2, Htv2, HV2, HS2, Hsx, Hsw, HF0, Hs⟩ Hk
  iapply (wp_stage m ρ c 2 (k0_pay4 (k0_pay3 (xblk m ρ c (sh (2 + 1) c)))) rfl) $$ HS2
  iintro HS2
  iapply (wp_send m ρ K c _ 2 (dev6_eq c) ((fun _ => 0) c) (O₃ c) rfl _) $$ [HS2 HV2 HO Hts2 Htv2]
  · isplitr; · iexact HR
    isplitl [HS2]; · iexact HS2
    isplitl [HV2]; · iexact HV2
    isplitl [HO]; · iexact HO
    isplitl [Hts2]; · iexact Hts2
    iexact Htv2
  iintro ⟨Hcs2, HO⟩
  iapply (wp_sx m ρ c) $$ Hsx
  iintro Hsx
  iapply (wp_sw m ρ c) $$ Hsw
  iintro Hsw
  ihave HO := (show (owes (c : Thread nD τ) 0 W : sProp 𝕄) ⊢ Ow c from by unfold Ow; iintro H; iexists W; iexact H) $$ HO
  iapply (wp_land m c (c) 0) $$ [HF0 HO]
  · isplitl [HF0] <;> iassumption
  iintro ⟨HL0, Hw0, Hv0, HO⟩
  iapply (wp_convert m c (c) 0 [] _ (off3_at c 0) k0_pay6 rfl) $$ [HL0 Hs]
  · isplitl [HL0] <;> iassumption
  iintro ⟨Hb0, Hs⟩
  rw [wp_ret]; imodintro
  iapply Hk
  isplitl [HO]; · iexact HO
  isplitl [Hcs2]; · iexact Hcs2
  isplitl [Hsx]; · iexact Hsx
  isplitl [Hsw]; · iexact Hsw
  isplitl [Hw0]; · iexact Hw0
  isplitl [Hb0]; · iexact Hb0
  isplitl [Hv0]; · iexact Hv0
  iexact Hs

/-- The own block narrowed, the next one's copies issued. -/
theorem part5_spec (c : Dev nD) (v2 v5 v116 w : BitVec 32) {Kt : _ → sProp 𝕄} :
    iprop(Ow (F := F) c ∗ wAt m c 0 ∗ wbFree (F := F) c 0 ∗ semVal (copyCell c 0) 0 ∗ InFl m c 1 (c) ∗ WsHas m c [(c, 0)] ∗ xAt m ρ c)
      ⊢ iprop((iprop(Ow (F := F) c ∗ InFl m c 0 (src c 0) ∗ InFl m c 1 (src c 0) ∗ WsHas m c [(c, 1), (c, 0)] ∗ xAt m ρ c) -∗ Kt (k0_pay8 (xblk m ρ c c))) -∗ wp frame (wpE (defs₀ (F := F)) 𝒱₀ (c : Thread nD τ) none) Set.univ (part5 c v2 v5 v116 w) Kt) := by
  simp only [part5, k0_part5_eq_skeleton]; unfold k0_part5_skel
  simp only [semSignalWord, semWaitWord, smemLoad, smemLoadElt, Prog.lift, Prog.bind_op, Prog.bind_ret, Prog.pure_eq_ret, wp_deviceId]
  iintro ⟨HO, Hw0, Hb0, Hv0, HF1, Hs, Hx⟩ Hk
  iapply (wp_copy m c (src c 0) 0 _ (off4_at c 0 0)) $$ [Hw0 Hb0 Hv0]
  · isplitl [Hw0]; · iexact Hw0
    isplitl [Hb0] <;> iassumption
  iintro HF0
  iapply (wp_land m c (c) 1) $$ [HF1 HO]
  · isplitl [HF1] <;> iassumption
  iintro ⟨HL1, Hw1, Hv1, HO⟩
  iapply (wp_convert m c (c) 1 [(c, 0)] _ (off3_at c 1) k0_pay7 rfl) $$ [HL1 Hs]
  · isplitl [HL1] <;> iassumption
  iintro ⟨Hb1, Hs⟩
  iapply (wp_copy m c (src c 0) 1 _ (off4_at c 0 1)) $$ [Hw1 Hb1 Hv1]
  · isplitl [Hw1]; · iexact Hw1
    isplitl [Hb1] <;> iassumption
  iintro HF1
  iapply (wp_xload m ρ c (c) _ (off5_at c)) $$ Hx
  iintro Hx
  rw [wp_ret]; imodintro
  iapply Hk
  isplitl [HO]; · iexact HO
  isplitl [HF0]; · iexact HF0
  isplitl [HF1]; · iexact HF1
  isplitl [Hs]; · iexact Hs
  iexact Hx

/-- The own block's product. -/
theorem part6_spec (c : Dev nD) (v2 v5 v8 : BitVec 32) (y : Vec F S1024x2048 .f32) {Kt : _ → sProp 𝕄} :
    iprop(Ow (F := F) c ∗ InFl m c 0 (src c 0) ∗ WsHas m c [(c, 1), (c, 0)] ∗ oAt c y)
      ⊢ iprop((iprop(Ow (F := F) c ∗ InFl m c 0 (src c 2) ∗ WsHas m c [(src c 0, 0), (c, 1), (c, 0)] ∗ oAt c (acc1 m ρ c)) -∗ Kt ⟨⟩) -∗ wp frame (wpE (defs₀ (F := F)) 𝒱₀ (c : Thread nD τ) none) Set.univ (part6 c v2 v5 v8 (k0_pay8 (xblk m ρ c c))) Kt) := by
  simp only [part6, k0_part6_eq_skeleton]; unfold k0_part6_skel
  simp only [semSignalWord, semWaitWord, smemLoad, smemLoadElt, Prog.lift, Prog.bind_op, Prog.bind_ret, Prog.pure_eq_ret, wp_deviceId]
  iintro ⟨HO, HF0, Hs, Ho⟩ Hk
  iapply (wp_block m c (c) [(c, 1), (c, 0)] (by simp) (by simp) _ (off6_at c)) $$ Hs
  iintro Hs
  iapply (wp_oload c (y)) $$ Ho
  iintro Ho
  iapply (wp_ostore c (y) (acc1 m ρ c)) $$ Ho
  iintro Ho
  iapply (wp_land m c (src c 0) 0) $$ [HF0 HO]
  · isplitl [HF0] <;> iassumption
  iintro ⟨HL0, Hw0, Hv0, HO⟩
  iapply (wp_convert m c (src c 0) 0 [(c, 1), (c, 0)] _ (off7_at c 0 0) k0_pay10 rfl) $$ [HL0 Hs]
  · isplitl [HL0] <;> iassumption
  iintro ⟨Hb0, Hs⟩
  iapply (wp_copy m c (src c 2) 0 _ (off4_at c 2 0)) $$ [Hw0 Hb0 Hv0]
  · isplitl [Hw0]; · iexact Hw0
    isplitl [Hb0] <;> iassumption
  iintro HF0
  rw [wp_ret]; imodintro
  iapply Hk
  isplitl [HO]; · iexact HO
  isplitl [HF0]; · iexact HF0
  isplitl [Hs]; · iexact Hs
  iexact Ho

/-- The first block received. -/
theorem part7_spec (c : Dev nD) (v5 v8 v40 : BitVec 32) {Kt : _ → sProp 𝕄} :
    iprop(records m ρ K ∗ Ow (F := F) c ∗ InFl m c 1 (src c 0) ∗ WsHas m c [(src c 0, 0), (c, 1), (c, 0)] ∗ cred (tallyAt (recvCell c 0) () N) ∗ atPos ER (recvCell c 0) 0 ∅ 0)
      ⊢ iprop((iprop(Ow (F := F) c ∗ InFl m c 1 (src c 2) ∗ WsHas m c [(src c 0, 1), (src c 0, 0), (c, 1), (c, 0)] ∗ atPos ER (recvCell c 0) (0 + 1) ∅ 0 ∗ rvFree (F := F) c 0) -∗ Kt (sent m ρ (src c 0) 0)) -∗ wp frame (wpE (defs₀ (F := F)) 𝒱₀ (c : Thread nD τ) none) Set.univ (part7 c v5 v8 v40) Kt) := by
  simp only [part7, k0_part7_eq_skeleton]; unfold k0_part7_skel
  simp only [semSignalWord, semWaitWord, smemLoad, smemLoadElt, Prog.lift, Prog.bind_op, Prog.bind_ret, Prog.pure_eq_ret, wp_deviceId]
  iintro ⟨#HR, HO, HF1, Hs, Hcv0, Hav0⟩ Hk
  iapply (wp_land m c (src c 0) 1) $$ [HF1 HO]
  · isplitl [HF1] <;> iassumption
  iintro ⟨HL1, Hw1, Hv1, HO⟩
  iapply (wp_convert m c (src c 0) 1 [(src c 0, 0), (c, 1), (c, 0)] _ (off7_at c 0 1) k0_pay11 rfl) $$ [HL1 Hs]
  · isplitl [HL1] <;> iassumption
  iintro ⟨Hb1, Hs⟩
  iapply (wp_copy m c (src c 2) 1 _ (off4_at c 2 1)) $$ [Hw1 Hb1 Hv1]
  · isplitl [Hw1]; · iexact Hw1
    isplitl [Hb1] <;> iassumption
  iintro HF1
  iapply (wp_receive m ρ K c 0) $$ [Hcv0 Hav0 HO]
  · isplitr; · iexact HR
    isplitl [Hcv0]; · iexact Hcv0
    isplitl [Hav0] <;> iassumption
  iintro ⟨HP0, Hav0, HO⟩
  iapply (wp_rload m ρ c 0) $$ HP0
  iintro %v %hv HV0
  rw [hv]
  rw [wp_ret]; imodintro
  iapply Hk
  isplitl [HO]; · iexact HO
  isplitl [HF1]; · iexact HF1
  isplitl [Hs]; · iexact Hs
  isplitl [Hav0]; · iexact Hav0
  iexact HV0

/-- Its product added. -/
theorem part8_spec (c : Dev nD) (v5 v8 v11 : BitVec 32) {Kt : _ → sProp 𝕄} :
    iprop(Ow (F := F) c ∗ InFl m c 0 (src c 2) ∗ WsHas m c [(src c 0, 1), (src c 0, 0), (c, 1), (c, 0)] ∗ oAt c (acc1 m ρ c))
      ⊢ iprop((iprop(Ow (F := F) c ∗ InFl m c 0 (src c 1) ∗ WsHas m c [(src c 2, 0), (src c 0, 1), (src c 0, 0), (c, 1), (c, 0)] ∗ oAt c (acc2 m ρ c)) -∗ Kt ⟨⟩) -∗ wp frame (wpE (defs₀ (F := F)) 𝒱₀ (c : Thread nD τ) none) Set.univ (part8 c v5 v8 v11 (sent m ρ (src c 0) 0)) Kt) := by
  simp only [part8, k0_part8_eq_skeleton]; unfold k0_part8_skel
  simp only [semSignalWord, semWaitWord, smemLoad, smemLoadElt, Prog.lift, Prog.bind_op, Prog.bind_ret, Prog.pure_eq_ret, wp_deviceId]
  iintro ⟨HO, HF0, Hs, Ho⟩ Hk
  iapply (wp_block m c (src c 0) [(src c 0, 1), (src c 0, 0), (c, 1), (c, 0)] (by simp) (by simp) _ (off8_at c 0)) $$ Hs
  iintro Hs
  iapply (wp_oload c (acc1 m ρ c)) $$ Ho
  iintro Ho
  iapply (wp_oload c (acc1 m ρ c)) $$ Ho
  iintro Ho
  iapply (wp_ostore c (acc1 m ρ c) (acc2 m ρ c)) $$ Ho
  iintro Ho
  iapply (wp_land m c (src c 2) 0) $$ [HF0 HO]
  · isplitl [HF0] <;> iassumption
  iintro ⟨HL0, Hw0, Hv0, HO⟩
  iapply (wp_convert m c (src c 2) 0 [(src c 0, 1), (src c 0, 0), (c, 1), (c, 0)] _ (off7_at c 2 0) k0_pay14 rfl) $$ [HL0 Hs]
  · isplitl [HL0] <;> iassumption
  iintro ⟨Hb0, Hs⟩
  iapply (wp_copy m c (src c 1) 0 _ (off4_at c 1 0)) $$ [Hw0 Hb0 Hv0]
  · isplitl [Hw0]; · iexact Hw0
    isplitl [Hb0] <;> iassumption
  iintro HF0
  rw [wp_ret]; imodintro
  iapply Hk
  isplitl [HO]; · iexact HO
  isplitl [HF0]; · iexact HF0
  isplitl [Hs]; · iexact Hs
  iexact Ho

/-- The second block received. -/
theorem part9_spec (c : Dev nD) (v8 v11 v80 : BitVec 32) {Kt : _ → sProp 𝕄} :
    iprop(records m ρ K ∗ Ow (F := F) c ∗ InFl m c 1 (src c 2) ∗ WsHas m c [(src c 2, 0), (src c 0, 1), (src c 0, 0), (c, 1), (c, 0)] ∗ cred (tallyAt (recvCell c 2) () N) ∗ atPos ER (recvCell c 2) 0 ∅ 0)
      ⊢ iprop((iprop(Ow (F := F) c ∗ InFl m c 1 (src c 1) ∗ WsHas m c [(src c 2, 1), (src c 2, 0), (src c 0, 1), (src c 0, 0), (c, 1), (c, 0)] ∗ atPos ER (recvCell c 2) (0 + 1) ∅ 0 ∗ recvPay m ρ c 2) -∗ Kt ⟨⟩) -∗ wp frame (wpE (defs₀ (F := F)) 𝒱₀ (c : Thread nD τ) none) Set.univ (part9 c v8 v11 v80) Kt) := by
  simp only [part9, k0_part9_eq_skeleton]; unfold k0_part9_skel
  simp only [semSignalWord, semWaitWord, smemLoad, smemLoadElt, Prog.lift, Prog.bind_op, Prog.bind_ret, Prog.pure_eq_ret, wp_deviceId]
  iintro ⟨#HR, HO, HF1, Hs, Hcv2, Hav2⟩ Hk
  iapply (wp_land m c (src c 2) 1) $$ [HF1 HO]
  · isplitl [HF1] <;> iassumption
  iintro ⟨HL1, Hw1, Hv1, HO⟩
  iapply (wp_convert m c (src c 2) 1 [(src c 2, 0), (src c 0, 1), (src c 0, 0), (c, 1), (c, 0)] _ (off7_at c 2 1) k0_pay15 rfl) $$ [HL1 Hs]
  · isplitl [HL1] <;> iassumption
  iintro ⟨Hb1, Hs⟩
  iapply (wp_copy m c (src c 1) 1 _ (off4_at c 1 1)) $$ [Hw1 Hb1 Hv1]
  · isplitl [Hw1]; · iexact Hw1
    isplitl [Hb1] <;> iassumption
  iintro HF1
  iapply (wp_receive m ρ K c 2) $$ [Hcv2 Hav2 HO]
  · isplitr; · iexact HR
    isplitl [Hcv2]; · iexact Hcv2
    isplitl [Hav2] <;> iassumption
  iintro ⟨HP2, Hav2, HO⟩
  rw [wp_ret]; imodintro
  iapply Hk
  isplitl [HO]; · iexact HO
  isplitl [HF1]; · iexact HF1
  isplitl [Hs]; · iexact Hs
  isplitl [Hav2]; · iexact Hav2
  iexact HP2

/-- Its product added, the last copies awaited. -/
theorem part10_spec (c : Dev nD) (v8 v11 : BitVec 32) {Kt : _ → sProp 𝕄} :
    iprop(Ow (F := F) c ∗ recvPay m ρ c 2 ∗ InFl m c 0 (src c 1) ∗ InFl m c 1 (src c 1) ∗ WsHas m c [(src c 2, 1), (src c 2, 0), (src c 0, 1), (src c 0, 0), (c, 1), (c, 0)] ∗ oAt c (acc2 m ρ c))
      ⊢ iprop((∀ v293, iprop(Ow (F := F) c ∗ rvFree (F := F) c 2 ∗ wAt m c 0 ∗ wbFree (F := F) c 0 ∗ semVal (copyCell c 0) 0 ∗ Landed m c 1 (src c 1) ∗ wAt m c 1 ∗ semVal (copyCell c 1) 0 ∗ WsHas m c [(src c 1, 0), (src c 2, 1), (src c 2, 0), (src c 0, 1), (src c 0, 0), (c, 1), (c, 0)] ∗ oAt c (acc3 m ρ c)) -∗ Kt v293) -∗ wp frame (wpE (defs₀ (F := F)) 𝒱₀ (c : Thread nD τ) none) Set.univ (part10 c v8 v11) Kt) := by
  simp only [part10, k0_part10_eq_skeleton]; unfold k0_part10_skel
  simp only [semSignalWord, semWaitWord, smemLoad, smemLoadElt, Prog.lift, Prog.bind_op, Prog.bind_ret, Prog.pure_eq_ret, wp_deviceId]
  iintro ⟨HO, HP2, HF0, HF1, Hs, Ho⟩ Hk
  iapply (wp_rload m ρ c 2) $$ HP2
  iintro %v %hv HV2
  iapply (wp_block m c (src c 2) [(src c 2, 1), (src c 2, 0), (src c 0, 1), (src c 0, 0), (c, 1), (c, 0)] (by simp) (by simp) _ (off8_at c 2)) $$ Hs
  iintro Hs
  iapply (wp_oload c (acc2 m ρ c)) $$ Ho
  iintro Ho
  iapply (wp_oload c (acc2 m ρ c)) $$ Ho
  iintro Ho
  iapply (wp_ostore c (acc2 m ρ c) (k0_pay16 v (wblk8 m c (src c 2)) (acc2 m ρ c))) $$ Ho
  iintro Ho
  rw [show k0_pay16 v (wblk8 m c (src c 2)) (acc2 m ρ c) = acc3 m ρ c from by unfold acc3; rw [← hv]; rfl]
  iapply (wp_land m c (src c 1) 0) $$ [HF0 HO]
  · isplitl [HF0] <;> iassumption
  iintro ⟨HL0, Hw0, Hv0, HO⟩
  iapply (wp_convert m c (src c 1) 0 [(src c 2, 1), (src c 2, 0), (src c 0, 1), (src c 0, 0), (c, 1), (c, 0)] _ (off7_at c 1 0) k0_pay17 rfl) $$ [HL0 Hs]
  · isplitl [HL0] <;> iassumption
  iintro ⟨Hb0, Hs⟩
  iapply (wp_land m c (src c 1) 1) $$ [HF1 HO]
  · isplitl [HF1] <;> iassumption
  iintro ⟨HL1, Hw1, Hv1, HO⟩
  rw [wp_ret]; imodintro
  iapply Hk
  isplitl [HO]; · iexact HO
  isplitl [HV2]; · iexact HV2
  isplitl [Hw0]; · iexact Hw0
  isplitl [Hb0]; · iexact Hb0
  isplitl [Hv0]; · iexact Hv0
  isplitl [HL1]; · iexact HL1
  isplitl [Hw1]; · iexact Hw1
  isplitl [Hv1]; · iexact Hv1
  isplitl [Hs]; · iexact Hs
  iexact Ho

/-- The last block received and its product added, the whole scaled. -/
theorem part11_spec (c : Dev nD) (v11 v60 v293 : BitVec 32) {Kt : _ → sProp 𝕄} :
    iprop(records m ρ K ∗ Ow (F := F) c ∗ Landed m c 1 (src c 1) ∗ WsHas m c [(src c 1, 0), (src c 2, 1), (src c 2, 0), (src c 0, 1), (src c 0, 0), (c, 1), (c, 0)] ∗ oAt c (acc3 m ρ c) ∗ cred (tallyAt (recvCell c 1) () N) ∗ atPos ER (recvCell c 1) 0 ∅ 0)
      ⊢ iprop((iprop(Ow (F := F) c ∗ wbFree (F := F) c 1 ∗ WsHas m c [(src c 1, 1), (src c 1, 0), (src c 2, 1), (src c 2, 0), (src c 0, 1), (src c 0, 0), (c, 1), (c, 0)] ∗ atPos ER (recvCell c 1) (0 + 1) ∅ 0 ∗ rvFree (F := F) c 1 ∗ oAt c (outAt m ρ c)) -∗ Kt ⟨⟩) -∗ wp frame (wpE (defs₀ (F := F)) 𝒱₀ (c : Thread nD τ) none) Set.univ (part11 c v11 v60 (scale m ρ c) v293) Kt) := by
  simp only [part11, k0_part11_eq_skeleton]; unfold k0_part11_skel
  simp only [semSignalWord, semWaitWord, smemLoad, smemLoadElt, Prog.lift, Prog.bind_op, Prog.bind_ret, Prog.pure_eq_ret, wp_deviceId]
  iintro ⟨#HR, HO, HL1, Hs, Ho, Hcv1, Hav1⟩ Hk
  iapply (wp_convert m c (src c 1) 1 [(src c 1, 0), (src c 2, 1), (src c 2, 0), (src c 0, 1), (src c 0, 0), (c, 1), (c, 0)] _ (off7_at c 1 1) k0_pay18 rfl) $$ [HL1 Hs]
  · isplitl [HL1] <;> iassumption
  iintro ⟨Hb1, Hs⟩
  iapply (wp_receive m ρ K c 1) $$ [Hcv1 Hav1 HO]
  · isplitr; · iexact HR
    isplitl [Hcv1]; · iexact Hcv1
    isplitl [Hav1] <;> iassumption
  iintro ⟨HP1, Hav1, HO⟩
  iapply (wp_rload m ρ c 1) $$ HP1
  iintro %v %hv HV1
  iapply (wp_block m c (src c 1) [(src c 1, 1), (src c 1, 0), (src c 2, 1), (src c 2, 0), (src c 0, 1), (src c 0, 0), (c, 1), (c, 0)] (by simp) (by simp) _ (off8_at c 1)) $$ Hs
  iintro Hs
  iapply (wp_oload c (acc3 m ρ c)) $$ Ho
  iintro Ho
  iapply (wp_oload c (acc3 m ρ c)) $$ Ho
  iintro Ho
  iapply (wp_ostore c (acc3 m ρ c) (k0_pay19 (scale m ρ c) v (wblk8 m c (src c 1)) (acc3 m ρ c))) $$ Ho
  iintro Ho
  rw [show k0_pay19 (scale m ρ c) v (wblk8 m c (src c 1)) (acc3 m ρ c) = outAt m ρ c from by unfold outAt acc4; rw [← hv]; rfl]
  rw [wp_ret]; imodintro
  iapply Hk
  isplitl [HO]; · iexact HO
  isplitl [Hb1]; · iexact Hb1
  isplitl [Hs]; · iexact Hs
  isplitl [Hav1]; · iexact Hav1
  isplitl [HV1]; · iexact HV1
  iexact Ho

/-! ## The whole -/

/-- What a device signals, sends and receives with: the tokens of the duties it pays, -/
def Toks (c : Dev nD) : sProp 𝕄 :=
  iprop((dutyTok ER (barCell (sh (0 + 1) c)) 0 0 ∗ dutyTok ER (barCell (sh (1 + 1) c)) 0 1 ∗ dutyTok ER (barCell (sh (2 + 1) c)) 0 2)
    ∗ (dutyTok ER (sendCell c 0) 0 0 ∗ dutyTok ER (sendCell c 1) 0 0 ∗ dutyTok ER (sendCell c 2) 0 0)
    ∗ (dutyTok ER (recvCell (sh (0 + 1) c) 0) 0 0 ∗ dutyTok ER (recvCell (sh (1 + 1) c) 1) 0 0 ∗ dutyTok ER (recvCell (sh (2 + 1) c) 2) 0 0))
/-- where it stands at its own cells, -/
def Stands (c : Dev nD) (r : ℕ) : sProp 𝕄 :=
  iprop(atPos ER (barCell c) r ∅ 0
    ∗ (atPos ER (sendCell c 0) r ∅ 0 ∗ atPos ER (sendCell c 1) r ∅ 0 ∗ atPos ER (sendCell c 2) r ∅ 0)
    ∗ (atPos ER (recvCell c 0) r ∅ 0 ∗ atPos ER (recvCell c 1) r ∅ 0 ∗ atPos ER (recvCell c 2) r ∅ 0))
/-- the credits of what is to arrive, -/
def Creds (c : Dev nD) : sProp 𝕄 :=
  iprop(cred (tallyAt (barCell c) () 3)
    ∗ (cred (tallyAt (recvCell c 0) () N) ∗ cred (tallyAt (recvCell c 1) () N) ∗ cred (tallyAt (recvCell c 2) () N)))
/-- its buffers, -/
def Bufs (c : Dev nD) : sProp 𝕄 :=
  iprop((sendPay (F := F) c 0 ∗ sendPay (F := F) c 1 ∗ sendPay (F := F) c 2)
    ∗ (rvFree (F := F) c 0 ∗ rvFree (F := F) c 1 ∗ rvFree (F := F) c 2)
    ∗ (wbFree (F := F) c 0 ∗ wbFree (F := F) c 1)
    ∗ ∃ g, (((c : Thread nD τ).loc cc0_scratch3) ↦{fullShare} (g : Buf (Elt F) ((c : Thread nD τ).loc cc0_scratch3))))
/-- and what its copies go with: the two shares of `w` and the copies' two counters. -/
def Copies (c : Dev nD) : sProp 𝕄 :=
  iprop((wAt m c 0 ∗ wAt m c 1) ∗ semVal (copyCell c 0) 0 ∗ semVal (copyCell c 1) 0)
/-- The three staged inputs. -/
def Ins (c : Dev nD) : sProp 𝕄 := iprop(xAt m ρ c ∗ sxAt m ρ c ∗ swAt m ρ c)

theorem ws_any (c : Dev nD) (l : List (Dev nD × Fin 2)) :
    WsHas m c l ⊢ iprop(∃ g, (((c : Thread nD τ).loc cc0_scratch3) ↦{fullShare} (g : Buf (Elt F) ((c : Thread nD τ).loc cc0_scratch3)))) := by
  unfold WsHas
  iintro ⟨%g, -, H⟩
  iexists g; iexact H
theorem ws_none (c : Dev nD) (g : Buf (Elt F) ((c : Thread nD τ).loc cc0_scratch3)) :
    (((c : Thread nD τ).loc cc0_scratch3) ↦{fullShare} g : sProp 𝕄) ⊢ WsHas m c [] := by
  unfold WsHas
  iintro H
  iexists g
  isplitr
  · ipureintro; intro p hp; cases hp
  iexact H

theorem stSlot_credit (k : Fin 3) : (stSlot k).view.dmaCredit = N := rfl

set_option maxHeartbeats 1000000 in
/-- The body of device `c`. -/
theorem body_spec (c : Dev nD) (W : Waits sig Unit) (y : Vec F S1024x2048 .f32) {Kt : PUnit → sProp 𝕄} :
    iprop(records m ρ K ∗ levAts L lv ∗ Toks c ∗ Stands c 0 ∗ Creds c ∗ Bufs (F := F) c ∗ Copies m c ∗ Ins m ρ c ∗ oAt c y ∗ owes (c : Thread nD τ) (O₀ c) W)
      ⊢ iprop((iprop(Stands c (0 + 1) ∗ Bufs (F := F) c ∗ Copies m c ∗ Ins m ρ c ∗ oAt c (outAt m ρ c) ∗ Ow (F := F) c) -∗ |={Set.univ}=> Kt ⟨⟩)
          -∗ wp frame (wpE (defs₀ (F := F)) 𝒱₀ (c : Thread nD τ) none) Set.univ (cc0_body (F := F) xM (Memref.isWhole_whole _) wM (Memref.isWhole_whole _) sxM (Memref.isWhole_whole _) swM (Memref.isWhole_whole _) oM (Memref.isWhole_whole _) stM (Memref.isWhole_whole _) rvM (Memref.isWhole_whole _) wbM (Memref.isWhole_whole _) wsM (Memref.isWhole_whole _) cc0_scratch4 cc0_scratch5 cc0_scratch6) Kt) := by
  simp only [cc0_body_eq_skeleton]; unfold cc0_body_skel
  simp only [Prog.lift, wp_bind]
  unfold Toks Stands Creds Bufs Copies Ins
  iintro ⟨#HR, #Hlev, ⟨⟨Htb0, Htb1, Htb2⟩, ⟨Hts0, Hts1, Hts2⟩, ⟨Htv0, Htv1, Htv2⟩⟩, ⟨Hab, ⟨Has0, Has1, Has2⟩, ⟨Hav0, Hav1, Hav2⟩⟩,
    ⟨Hcb, Hcv0, Hcv1, Hcv2⟩, ⟨⟨HS0, HS1, HS2⟩, ⟨HV0, HV1, HV2⟩, ⟨Hb0, Hb1⟩, ⟨%g, Hs⟩⟩, ⟨⟨Hw0, Hw1⟩, Hv0, Hv1⟩, ⟨Hx, Hsx, Hsw⟩, Ho, HO⟩ Hk
  ihave Hs := (ws_none m c g) $$ Hs
  iapply (part1_spec m c) $$ [Hw0 Hb0 Hv0 Hw1 Hb1 Hv1]
  · isplitl [Hw0]; · iexact Hw0
    isplitl [Hb0]; · iexact Hb0
    isplitl [Hv0]; · iexact Hv0
    isplitl [Hw1]; · iexact Hw1
    isplitl [Hb1]; · iexact Hb1
    iexact Hv1
  iintro %v2 %v5 %v8 %v11 %v28 ⟨HF0, HF1⟩
  iapply (part2_spec m ρ K c v2 v28 W) $$ [HO Htb0 Htb1 Htb2 HV0 HV1 HV2 Hcb Hab Hx HS0]
  · isplitr; · iexact HR
    isplitr; · iexact Hlev
    isplitl [HO]; · iexact HO
    isplitl [Htb0]; · iexact Htb0
    isplitl [Htb1]; · iexact Htb1
    isplitl [Htb2]; · iexact Htb2
    isplitl [HV0]; · iexact HV0
    isplitl [HV1]; · iexact HV1
    isplitl [HV2]; · iexact HV2
    isplitl [Hcb]; · iexact Hcb
    isplitl [Hab]; · iexact Hab
    isplitl [Hx]; · iexact Hx
    iexact HS0
  iintro %v40 ⟨⟨%W1, HO⟩, Hab, HV0, HV1, HV2, Hx, HS0⟩
  iapply (part3_spec m ρ K c v2 W1) $$ [HO Hts0 Htv0 Hts1 Htv1 HV0 HV1 HS0 HS1 Hx]
  · isplitr; · iexact HR
    isplitl [HO]; · iexact HO
    isplitl [Hts0]; · iexact Hts0
    isplitl [Htv0]; · iexact Htv0
    isplitl [Hts1]; · iexact Hts1
    isplitl [Htv1]; · iexact Htv1
    isplitl [HV0]; · iexact HV0
    isplitl [HV1]; · iexact HV1
    isplitl [HS0]; · iexact HS0
    isplitl [HS1]; · iexact HS1
    iexact Hx
  iintro %v60 %v80 ⟨HO, Hcs0, Hcs1, Hx⟩
  iapply (part4_spec m ρ K c v2 v5 v80 W1) $$ [HO Hts2 Htv2 HV2 HS2 Hsx Hsw HF0 Hs]
  · isplitr; · iexact HR
    isplitl [HO]; · iexact HO
    isplitl [Hts2]; · iexact Hts2
    isplitl [Htv2]; · iexact Htv2
    isplitl [HV2]; · iexact HV2
    isplitl [HS2]; · iexact HS2
    isplitl [Hsx]; · iexact Hsx
    isplitl [Hsw]; · iexact Hsw
    isplitl [HF0]; · iexact HF0
    iexact Hs
  iintro %v116 %w ⟨HO, Hcs2, Hsx, Hsw, Hw0, Hb0, Hv0, Hs⟩
  iapply (part5_spec m ρ c v2 v5 v116 w) $$ [HO Hw0 Hb0 Hv0 HF1 Hs Hx]
  · isplitl [HO]; · iexact HO
    isplitl [Hw0]; · iexact Hw0
    isplitl [Hb0]; · iexact Hb0
    isplitl [Hv0]; · iexact Hv0
    isplitl [HF1]; · iexact HF1
    isplitl [Hs]; · iexact Hs
    iexact Hx
  iintro  ⟨HO, HF0, HF1, Hs, Hx⟩
  iapply (part6_spec m ρ c v2 v5 v8 y) $$ [HO HF0 Hs Ho]
  · isplitl [HO]; · iexact HO
    isplitl [HF0]; · iexact HF0
    isplitl [Hs]; · iexact Hs
    iexact Ho
  iintro  ⟨HO, HF0, Hs, Ho⟩
  iapply (part7_spec m ρ K c v5 v8 v40) $$ [HO HF1 Hs Hcv0 Hav0]
  · isplitr; · iexact HR
    isplitl [HO]; · iexact HO
    isplitl [HF1]; · iexact HF1
    isplitl [Hs]; · iexact Hs
    isplitl [Hcv0]; · iexact Hcv0
    iexact Hav0
  iintro  ⟨HO, HF1, Hs, Hav0, HV0⟩
  iapply (part8_spec m ρ c v5 v8 v11) $$ [HO HF0 Hs Ho]
  · isplitl [HO]; · iexact HO
    isplitl [HF0]; · iexact HF0
    isplitl [Hs]; · iexact Hs
    iexact Ho
  iintro  ⟨HO, HF0, Hs, Ho⟩
  iapply (part9_spec m ρ K c v8 v11 v80) $$ [HO HF1 Hs Hcv2 Hav2]
  · isplitr; · iexact HR
    isplitl [HO]; · iexact HO
    isplitl [HF1]; · iexact HF1
    isplitl [Hs]; · iexact Hs
    isplitl [Hcv2]; · iexact Hcv2
    iexact Hav2
  iintro  ⟨HO, HF1, Hs, Hav2, HP2⟩
  iapply (part10_spec m ρ c v8 v11) $$ [HO HP2 HF0 HF1 Hs Ho]
  · isplitl [HO]; · iexact HO
    isplitl [HP2]; · iexact HP2
    isplitl [HF0]; · iexact HF0
    isplitl [HF1]; · iexact HF1
    isplitl [Hs]; · iexact Hs
    iexact Ho
  iintro %v293 ⟨HO, HV2, Hw0, Hb0, Hv0, HL1, Hw1, Hv1, Hs, Ho⟩
  iapply (part11_spec m ρ K c v11 v60 v293) $$ [HO HL1 Hs Ho Hcv1 Hav1]
  · isplitr; · iexact HR
    isplitl [HO]; · iexact HO
    isplitl [HL1]; · iexact HL1
    isplitl [Hs]; · iexact Hs
    isplitl [Ho]; · iexact Ho
    isplitl [Hcv1]; · iexact Hcv1
    iexact Hav1
  iintro  ⟨HO, Hb1, Hs, Hav1, HV1, Ho⟩
  iapply (wp_sentBack m ρ K c 0 (dst := stSlot 0) (stSlot_credit 0)) $$ [Hcs0 Has0 HO]
  · isplitr; · iexact HR
    isplitl [Hcs0]; · iexact Hcs0
    isplitl [Has0] <;> iassumption
  iintro ⟨HS0, Has0, HO⟩
  rw [wp_ret]; imodintro
  iapply (wp_sentBack m ρ K c 1 (dst := stSlot 1) (stSlot_credit 1)) $$ [Hcs1 Has1 HO]
  · isplitr; · iexact HR
    isplitl [Hcs1]; · iexact Hcs1
    isplitl [Has1] <;> iassumption
  iintro ⟨HS1, Has1, HO⟩
  rw [wp_ret]; imodintro
  iapply (wp_sentBack m ρ K c 2 (dst := stSlot 2) (stSlot_credit 2)) $$ [Hcs2 Has2 HO]
  · isplitr; · iexact HR
    isplitl [Hcs2]; · iexact Hcs2
    isplitl [Has2] <;> iassumption
  iintro ⟨HS2, Has2, HO⟩
  rw [wp_ret]; imodintro
  rw [show (Pure.pure PUnit.unit : Prog (TpuEff nD τ sig (Elt F) Λ₀ .tc) PUnit) = Prog.ret PUnit.unit from rfl, wp_ret]
  ihave Hs := (ws_any m c _) $$ Hs
  iapply Hk
  isplitl [Hab Has0 Has1 Has2 Hav0 Hav1 Hav2]
  · isplitl [Hab]; · iexact Hab
    isplitl [Has0 Has1 Has2]
    · isplitl [Has0]; · iexact Has0
      isplitl [Has1]; · iexact Has1
      iexact Has2
    isplitl [Hav0]; · iexact Hav0
    isplitl [Hav1]; · iexact Hav1
    iexact Hav2
  isplitl [HS0 HS1 HS2 HV0 HV1 HV2 Hb0 Hb1 Hs]
  · isplitl [HS0 HS1 HS2]
    · isplitl [HS0]; · iexact HS0
      isplitl [HS1]; · iexact HS1
      iexact HS2
    isplitl [HV0 HV1 HV2]
    · isplitl [HV0]; · iexact HV0
      isplitl [HV1]; · iexact HV1
      iexact HV2
    isplitl [Hb0 Hb1]
    · isplitl [Hb0]; · iexact Hb0
      iexact Hb1
    iexact Hs
  isplitl [Hw0 Hw1 Hv0 Hv1]
  · isplitl [Hw0 Hw1]
    · isplitl [Hw0]; · iexact Hw0
      iexact Hw1
    isplitl [Hv0]; · iexact Hv0
    iexact Hv1
  isplitl [Hx Hsx Hsw]
  · isplitl [Hx]; · iexact Hx
    isplitl [Hsx]; · iexact Hsx
    iexact Hsw
  isplitl [Ho]; · iexact Ho
  iexact HO

end Cert.KernelIdeal.Run

end
-- ==== Proof.KernelIdealRun.lean ====
/-
# The kernel's run

The body as the launch takes it, the launch, and the run: from any memory with every semaphore counter at zero, every
execution ends, with each device's result at `outAt`, the arguments unchanged and every semaphore counter at zero.
-/
module

public import proofs.«01_k».proof.Proof.KernelIdealBody
public import Idealize.ShloMosaic.Lib.Ring
public import Idealize.ShloMosaic.Lib.Pipeline.CollectiveSegs

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers in pieces -/

theorem slots_apart (k k' : Fin 3) (h : k ≠ k') : Disjoint (rS k).set (rS k').set := by
  refine Rect.unit_disjoint (0 : Fin 3) ?_
  show k.val + 1 ≤ k'.val ∨ k'.val + 1 ≤ k.val
  have := Fin.val_ne_of_ne h; omega
theorem slots_all : (Finset.univ : Finset (Fin 3)).biUnion (fun k => (rS k).set) = Finset.univ := by
  refine Finset.eq_univ_iff_forall.mpr fun i => Finset.mem_biUnion.mpr ⟨⟨(i 0).val, (i 0).isLt⟩, Finset.mem_univ _, ?_⟩
  refine Rect.mem_set_unit.mpr fun a => ?_
  have ha := (i a).isLt
  match a with
  | ⟨0, _⟩ => exact ⟨le_refl _, Nat.lt_succ_self _⟩
  | ⟨1, _⟩ => exact ⟨Nat.zero_le _, by show _ < 0 + 1024; rw [Nat.zero_add]; exact ha⟩
  | ⟨2, _⟩ => exact ⟨Nat.zero_le _, by show _ < 0 + 1024; rw [Nat.zero_add]; exact ha⟩
theorem halves_apart (h h' : Fin 2) (hne : h ≠ h') : Disjoint (rB h).set (rB h').set := by
  refine Rect.unit_disjoint (0 : Fin 3) ?_
  show h.val + 1 ≤ h'.val ∨ h'.val + 1 ≤ h.val
  have := Fin.val_ne_of_ne hne; omega
theorem halves_all : (Finset.univ : Finset (Fin 2)).biUnion (fun h => (rB h).set) = Finset.univ := by
  refine Finset.eq_univ_iff_forall.mpr fun i => Finset.mem_biUnion.mpr ⟨⟨(i 0).val, (i 0).isLt⟩, Finset.mem_univ _, ?_⟩
  refine Rect.mem_set_unit.mpr fun a => ?_
  have ha := (i a).isLt
  match a with
  | ⟨0, _⟩ => exact ⟨le_refl _, Nat.lt_succ_self _⟩
  | ⟨1, _⟩ => exact ⟨Nat.zero_le _, by show _ < 0 + 512; rw [Nat.zero_add]; exact ha⟩
  | ⟨2, _⟩ => exact ⟨Nat.zero_le _, by show _ < 0 + 2048; rw [Nat.zero_add]; exact ha⟩

omit [FloatOps F] in
theorem st_pieces (c : Dev nD) (k : Fin 3) (f : Buf (Elt F) ((c : Thread nD τ).loc cc0_scratch0)) :
    (stPts c k f : sProp 𝕄) = (((c : Thread nD τ).loc cc0_scratch0) ↦[(rS k).set]{fullShare} f : sProp 𝕄) := by
  unfold stPts
  rw [stSlot_set]
omit [FloatOps F] in
theorem st_split (c : Dev nD) (f : Buf (Elt F) ((c : Thread nD τ).loc cc0_scratch0)) :
    (((c : Thread nD τ).loc cc0_scratch0) ↦{fullShare} f : sProp 𝕄) ⊢ iprop(sendPay (F := F) c 0 ∗ sendPay (F := F) c 1 ∗ sendPay (F := F) c 2) := by
  rw [Ring.pointsTo_blocks (ℓ := (c : Thread nD τ).loc cc0_scratch0) (fun k : Fin 3 => (rS k).set) slots_apart slots_all f, Ring.bigSep_fin3]
  unfold sendPay
  simp only [st_pieces]
  iintro ⟨H0, H1, H2⟩
  isplitl [H0]; · iexists f; iexact H0
  isplitl [H1]; · iexists f; iexact H1
  iexists f; iexact H2
omit [FloatOps F] in
theorem st_join (c : Dev nD) :
    iprop(sendPay (F := F) c 0 ∗ sendPay (F := F) c 1 ∗ sendPay (F := F) c 2) ⊢ (iprop(∃ f : Buf (Elt F) ((c : Thread nD τ).loc cc0_scratch0), ((c : Thread nD τ).loc cc0_scratch0) ↦{fullShare} f) : sProp 𝕄) := by
  unfold sendPay
  simp only [st_pieces]
  iintro ⟨⟨%f0, H0⟩, ⟨%f1, H1⟩, ⟨%f2, H2⟩⟩
  iapply (Ring.pointsTo_blocks_join_exists (ℓ := (c : Thread nD τ).loc cc0_scratch0) (fun k : Fin 3 => (rS k).set) slots_apart slots_all f0)
  rw [Ring.bigSep_fin3]
  isplitl [H0]; · iexists f0; iexact H0
  isplitl [H1]; · iexists f1; iexact H1
  iexists f2; iexact H2

omit [FloatOps F] in
theorem rv_pieces (c : Dev nD) (k : Fin 3) (f : Buf (Elt F) ((c : Thread nD τ).loc cc0_scratch1)) :
    (rvPts c k f : sProp 𝕄) = (((c : Thread nD τ).loc cc0_scratch1) ↦[(rS k).set]{fullShare} f : sProp 𝕄) := by
  unfold rvPts
  rw [rvSlot_set]
omit [FloatOps F] in
theorem rv_split (c : Dev nD) (f : Buf (Elt F) ((c : Thread nD τ).loc cc0_scratch1)) :
    (((c : Thread nD τ).loc cc0_scratch1) ↦{fullShare} f : sProp 𝕄) ⊢ iprop(rvFree (F := F) c 0 ∗ rvFree (F := F) c 1 ∗ rvFree (F := F) c 2) := by
  rw [Ring.pointsTo_blocks (ℓ := (c : Thread nD τ).loc cc0_scratch1) (fun k : Fin 3 => (rS k).set) slots_apart slots_all f, Ring.bigSep_fin3]
  unfold rvFree
  simp only [rv_pieces]
  iintro ⟨H0, H1, H2⟩
  isplitl [H0]; · iexists f; iexact H0
  isplitl [H1]; · iexists f; iexact H1
  iexists f; iexact H2
omit [FloatOps F] in
theorem rv_join (c : Dev nD) :
    iprop(rvFree (F := F) c 0 ∗ rvFree (F := F) c 1 ∗ rvFree (F := F) c 2) ⊢ (iprop(∃ f : Buf (Elt F) ((c : Thread nD τ).loc cc0_scratch1), ((c : Thread nD τ).loc cc0_scratch1) ↦{fullShare} f) : sProp 𝕄) := by
  unfold rvFree
  simp only [rv_pieces]
  iintro ⟨⟨%f0, H0⟩, ⟨%f1, H1⟩, ⟨%f2, H2⟩⟩
  iapply (Ring.pointsTo_blocks_join_exists (ℓ := (c : Thread nD τ).loc cc0_scratch1) (fun k : Fin 3 => (rS k).set) slots_apart slots_all f0)
  rw [Ring.bigSep_fin3]
  isplitl [H0]; · iexists f0; iexact H0
  isplitl [H1]; · iexists f1; iexact H1
  iexists f2; iexact H2

omit [FloatOps F] in
theorem wb_pieces (c : Dev nD) (k : Fin 2) (f : Buf (Elt F) ((c : Thread nD τ).loc cc0_scratch2)) :
    (wbPts c k f : sProp 𝕄) = (((c : Thread nD τ).loc cc0_scratch2) ↦[(rB k).set]{fullShare} f : sProp 𝕄) := by
  unfold wbPts
  rw [wbSlot_set]
omit [FloatOps F] in
theorem wb_split (c : Dev nD) (f : Buf (Elt F) ((c : Thread nD τ).loc cc0_scratch2)) :
    (((c : Thread nD τ).loc cc0_scratch2) ↦{fullShare} f : sProp 𝕄) ⊢ iprop(wbFree (F := F) c 0 ∗ wbFree (F := F) c 1) := by
  rw [Ring.pointsTo_blocks (ℓ := (c : Thread nD τ).loc cc0_scratch2) (fun k : Fin 2 => (rB k).set) halves_apart halves_all f, Ring.bigSep_fin2]
  unfold wbFree
  simp only [wb_pieces]
  iintro ⟨H0, H1⟩
  isplitl [H0]; · iexists f; iexact H0
  iexists f; iexact H1
omit [FloatOps F] in
theorem wb_join (c : Dev nD) :
    iprop(wbFree (F := F) c 0 ∗ wbFree (F := F) c 1) ⊢ (iprop(∃ f : Buf (Elt F) ((c : Thread nD τ).loc cc0_scratch2), ((c : Thread nD τ).loc cc0_scratch2) ↦{fullShare} f) : sProp 𝕄) := by
  unfold wbFree
  simp only [wb_pieces]
  iintro ⟨⟨%f0, H0⟩, ⟨%f1, H1⟩⟩
  iapply (Ring.pointsTo_blocks_join_exists (ℓ := (c : Thread nD τ).loc cc0_scratch2) (fun k : Fin 2 => (rB k).set) halves_apart halves_all f0)
  rw [Ring.bigSep_fin2]
  isplitl [H0]; · iexists f0; iexact H0
  iexists f1; iexact H1

/-- Device `c`'s `w`, whole. -/
def argAt (c : Dev nD) : sProp 𝕄 := ((c : Thread nD τ).loc main_arg1) ↦{fullShare} wbuf m c

omit [FloatOps F] in
theorem arg_halves (c : Dev nD) : argAt m c ⊣⊢ iprop(wAt m c 0 ∗ wAt m c 1) :=
  pointsTo_share (PosShare.mem_left_op_right fullShare)

/-- The scratch buffers whole, at any contents. -/
def Scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

omit [FloatOps F] in
theorem scr_split (c : Dev nD) : (Scr (F := F) c : sProp 𝕄) ⊢ Bufs (F := F) c := by
  unfold Scr Bufs
  iintro ⟨⟨%f0, H0⟩, ⟨%f1, H1⟩, ⟨%f2, H2⟩, ⟨%f3, H3⟩⟩
  isplitl [H0]; · iapply (st_split (F := F) c f0); iexact H0
  isplitl [H1]; · iapply (rv_split (F := F) c f1); iexact H1
  isplitl [H2]; · iapply (wb_split (F := F) c f2); iexact H2
  iexists f3; iexact H3
omit [FloatOps F] in
theorem scr_join (c : Dev nD) : (Bufs (F := F) c : sProp 𝕄) ⊢ Scr (F := F) c := by
  unfold Scr Bufs
  iintro ⟨H0, H1, H2, ⟨%f3, H3⟩⟩
  isplitl [H0]; · iapply (st_join (F := F) c); iexact H0
  isplitl [H1]; · iapply (rv_join (F := F) c); iexact H1
  isplitl [H2]; · iapply (wb_join (F := F) c); iexact H2
  iexists f3; iexact H3

/-! ## The cells at zero -/

/-- The seven cells' counters at zero. -/
def Zeros (c : Dev nD) : sProp 𝕄 :=
  iprop(semVal (barCell c) 0 ∗ (semVal (sendCell c 0) 0 ∗ semVal (sendCell c 1) 0 ∗ semVal (sendCell c 2) 0)
    ∗ (semVal (recvCell c 0) 0 ∗ semVal (recvCell c 1) 0 ∗ semVal (recvCell c 2) 0))

theorem close_cell (K : Dev nD × CI → ℕ) (p : Dev nD × CI) :
    iprop(records m ρ K ∗ atPos ER (kcell p) (0 + 1) ∅ 0) ⊢ iprop(|={Set.univ}=> semVal (kcell p) 0 : sProp 𝕄) := by
  iintro ⟨#HR, Hat⟩
  iapply (Rounds.cell_close ER (Rd m ρ) (Set.mem_univ (K p)) (fun h => h) (R := 0 + 1) (duties_later m ρ (kcell p)))
  isplitr; · iapply (records_inv m ρ K p); iexact HR
  iexact Hat

theorem close_all (K : Dev nD × CI → ℕ) (c : Dev nD) :
    iprop(records m ρ K ∗ Stands c (0 + 1)) ⊢ iprop(|={Set.univ}=> Zeros c : sProp 𝕄) := by
  unfold Stands Zeros
  iintro ⟨#HR, Hb, ⟨Hs0, Hs1, Hs2⟩, ⟨Hv0, Hv1, Hv2⟩⟩
  imod (close_cell m ρ K (c, none)) $$ [Hb] with Hb
  · isplitr; · iexact HR
    iexact Hb
  imod (close_cell m ρ K (c, some (false, 0))) $$ [Hs0] with Hs0
  · isplitr; · iexact HR
    iexact Hs0
  imod (close_cell m ρ K (c, some (false, 1))) $$ [Hs1] with Hs1
  · isplitr; · iexact HR
    iexact Hs1
  imod (close_cell m ρ K (c, some (false, 2))) $$ [Hs2] with Hs2
  · isplitr; · iexact HR
    iexact Hs2
  imod (close_cell m ρ K (c, some (true, 0))) $$ [Hv0] with Hv0
  · isplitr; · iexact HR
    iexact Hv0
  imod (close_cell m ρ K (c, some (true, 1))) $$ [Hv1] with Hv1
  · isplitr; · iexact HR
    iexact Hv1
  imod (close_cell m ρ K (c, some (true, 2))) $$ [Hv2] with Hv2
  · isplitr; · iexact HR
    iexact Hv2
  imodintro
  isplitl [Hb]; · iexact Hb
  isplitl [Hs0 Hs1 Hs2]
  · isplitl [Hs0]; · iexact Hs0
    isplitl [Hs1]; · iexact Hs1
    iexact Hs2
  isplitl [Hv0]; · iexact Hv0
  isplitl [Hv1]; · iexact Hv1
  iexact Hv2

/-! ## The body as the launch takes it -/

theorem cfg0_N : cfg0.N = 1 := N_0
def t₀ : Fin cfg0.N := t0_0
theorem fin_N (t : Fin cfg0.N) : t = t₀ := fin_N0 t

/-- What a device starts from: the cells' records, its tokens and positions, its copies' counters, the credits of what
    is to arrive, the levels, and its `w`. -/
def start (c : Dev nD) : sProp 𝕄 :=
  iprop((∃ K, records m ρ K ∗ Toks c ∗ Stands c 0) ∗ (semVal (copyCell c 0) 0 ∗ semVal (copyCell c 1) 0) ∗ Creds c ∗ levAts L lv ∗ argAt m c)
def Φ₀ (c : Dev nD) : sProp 𝕄 := iprop(start m ρ c ∗ Scr (F := F) c)
/-- What it ends with: every counter of its own at zero, its `w` as it was, the scratch buffers. -/
def Φ₁ (c : Dev nD) : sProp 𝕄 :=
  iprop(Zeros c ∗ (semVal (copyCell c 0) 0 ∗ semVal (copyCell c 1) 0) ∗ argAt m c ∗ Scr (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => sxstg m ρ c
    | ⟨2, _⟩ => swstg m ρ c
    | ⟨3, _⟩ => outAt m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

/-- A staging buffer holding `X`. -/
abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def before (c : Dev nD) : sProp 𝕄 :=
  iprop(Φ₀ m ρ c ∗ (dats m ρ 0 c).owesAt () t₀.castSucc
    ∗ (∃ d, holds c cc0_stg0_0 ((dats m ρ 0 c).before (0 : Fin 4) t₀ d))
    ∗ (∃ d, holds c cc0_stg1_0 ((dats m ρ 0 c).before (1 : Fin 4) t₀ d))
    ∗ (∃ d, holds c cc0_stg2_0 ((dats m ρ 0 c).before (2 : Fin 4) t₀ d))
    ∗ (∃ d, holds c cc0_stg3_0 ((dats m ρ 0 c).before (3 : Fin 4) t₀ d)))
def after (c : Dev nD) : sProp 𝕄 :=
  iprop(Φ₁ m c ∗ (dats m ρ 0 c).owesAt () t₀.succ ∗ holds c cc0_stg0_0 (xstg m ρ c) ∗ holds c cc0_stg1_0 (sxstg m ρ c)
    ∗ holds c cc0_stg2_0 (swstg m ρ c) ∗ holds c cc0_stg3_0 (outAt m ρ c))

theorem before_x (c : Dev nD) (d) : (dats m ρ 0 c).before (0 : Fin 4) t₀ d = xstg m ρ c := by
  unfold Dat.before; rw [if_pos (fetch0_0 t₀)]; rfl
theorem before_sx (c : Dev nD) (d) : (dats m ρ 0 c).before (1 : Fin 4) t₀ d = sxstg m ρ c := by
  unfold Dat.before; rw [if_pos (fetch0_1 t₀)]; rfl
theorem before_sw (c : Dev nD) (d) : (dats m ρ 0 c).before (2 : Fin 4) t₀ d = swstg m ρ c := by
  unfold Dat.before; rw [if_pos (fetch0_2 t₀)]; rfl

set_option maxHeartbeats 1000000 in
theorem body_run (c : Dev nD) :
    before m ρ c ⊢ wp frame (wpE (defs₀ (F := F)) 𝒱₀ (c : Thread nD τ) none) Set.univ (cc0_body (F := F) (Memref.whole cc0_stg0_0) (Memref.isWhole_whole _) (Memref.whole main_arg1) (Memref.isWhole_whole _)
        (Memref.whole cc0_stg1_0) (Memref.isWhole_whole _) (Memref.whole cc0_stg2_0) (Memref.isWhole_whole _) (Memref.whole cc0_stg3_0) (Memref.isWhole_whole _)
        (Memref.whole cc0_scratch0) (Memref.isWhole_whole _) (Memref.whole cc0_scratch1) (Memref.isWhole_whole _)
        (Memref.whole cc0_scratch2) (Memref.isWhole_whole _) (Memref.whole cc0_scratch3) (Memref.isWhole_whole _) cc0_scratch4 cc0_scratch5 cc0_scratch6) (fun _ => after m ρ c) := by
  unfold before Φ₀ start
  simp only [before_x, before_sx, before_sw]
  iintro ⟨⟨⟨⟨%K, #HR, HT, HP⟩, Hcp, Hcr, #Hlev, Hw⟩, Hscr⟩, Ho, ⟨%d0, %g0, %h0, Hx⟩, ⟨%d1, %g1, %h1, Hsx⟩, ⟨%d2, %g2, %h2, Hsw⟩, ⟨%d3, %g3, %h3, Hout⟩⟩
  subst h0 h1 h2
  unfold Dat.owesAt Pipeline.owesWithin
  icases Ho with ⟨%W, %hW, HO⟩
  rw [show (dats m ρ 0 c).owed t₀.castSucc = O₀ c from rfl]
  ihave Hb := (scr_split (F := F) c) $$ Hscr
  ihave Hw := (arg_halves m c).1 $$ Hw
  iapply (body_spec m ρ K c W g3 (Kt := fun _ => after m ρ c)) $$ [HT HP Hcp Hcr Hw Hb Hx Hsx Hsw Hout HO]
  · isplitr; · iexact HR
    isplitr; · iexact Hlev
    isplitl [HT]; · iexact HT
    isplitl [HP]; · iexact HP
    isplitl [Hcr]; · iexact Hcr
    isplitl [Hb]; · iexact Hb
    isplitl [Hw Hcp]
    · unfold Copies; isplitl [Hw]; · iexact Hw
      iexact Hcp
    isplitl [Hx Hsx Hsw]
    · unfold Ins xAt sxAt swAt
      isplitl [Hx]; · iexact Hx
      isplitl [Hsx] <;> iassumption
    isplitl [Hout]; · unfold oAt; iexact Hout
    iexact HO
  iintro ⟨HP, Hb, Hcp, Hin, Hout, HO⟩
  imod (close_all m ρ K c) $$ [HP] with HZ
  · isplitr; · iexact HR
    iexact HP
  imodintro
  unfold Copies Ins xAt sxAt swAt oAt Ow
  icases Hcp with ⟨Hw, Hcp⟩
  icases Hin with ⟨Hx, Hsx, Hsw⟩
  icases HO with ⟨%W', HO⟩
  ihave Hscr := (scr_join (F := F) c) $$ Hb
  ihave Hw := (arg_halves m c).2 $$ Hw
  unfold after Φ₁ Dat.owesAt Pipeline.owesWithin
  rw [show (dats m ρ 0 c).owed t₀.succ = 0 from rfl]
  isplitl [HZ Hcp Hw Hscr]
  · isplitl [HZ]; · iexact HZ
    isplitl [Hcp]; · iexact Hcp
    isplitl [Hw] <;> iassumption
  isplitl [HO]
  · iexists W'
    isplitr; · ipureintro; exact fun _ _ => Or.inl trivial
    iexact HO
  isplitl [Hx]
  · iexists _; isplitr; · (ipureintro; rfl)
    iexact Hx
  isplitl [Hsx]
  · iexists _; isplitr; · (ipureintro; rfl)
    iexact Hsx
  isplitl [Hsw]
  · iexists _; isplitr; · (ipureintro; rfl)
    iexact Hsw
  iexists _; isplitr; · (ipureintro; rfl)
  iexact Hout

set_option maxRecDepth 4000 in
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact body_run m ρ c

/-! ## The launch -/

/-- The kernel's own semaphores. -/
abbrev osem : Fin 8 → SemLoc sig
  | 0 => .dma (sendS 0) | 1 => .dma (sendS 1) | 2 => .dma (sendS 2)
  | 3 => .dma (recvS 0) | 4 => .dma (recvS 1) | 5 => .dma (recvS 2)
  | 6 => .dma (copyS 0) | 7 => .dma (copyS 1)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  intro a b h
  have hr : role (csem a) = role (csem b) := congrArg role h
  rcases a with _ | ⟨_ | _, k⟩ <;> rcases b with _ | ⟨_ | _, k'⟩ <;> simp only [csem, role_bar, role_send, role_recv] at hr <;>
    first | rfl | cases hr; rfl | cases hr
theorem kcell_injective : Function.Injective (kcell : Dev nD × CI → GSem nD τ sig) := fun p p' h =>
  Prod.ext (congrArg (fun g : GSem nD τ sig => g.1.1) h) (csem_injective (congrArg Prod.snd h))
def ringCells : Finset (GSem nD τ sig) := Finset.univ.map ⟨kcell, kcell_injective⟩

/-- The duties of a device's cells: duty `k` of its barrier cell, the one duty of its send or receive cell `k`. -/
abbrev tokOf (p : Dev nD × (Option Bool × Fin 3)) : GSem nD τ sig × ℕ × Fin 3 := match p.2 with
  | (none, k) => (barCell p.1, 0, k)
  | (some false, k) => (sendCell p.1 k, 0, 0)
  | (some true, k) => (recvCell p.1 k, 0, 0)
theorem tokOf_injective : Function.Injective tokOf := by
  rintro ⟨c, a, k⟩ ⟨c', a', k'⟩ h
  have hc : c = c' := by
    have := congrArg (fun x : GSem nD τ sig × ℕ × Fin 3 => x.1.1.1) h
    rcases a with _ | _ | _ <;> rcases a' with _ | _ | _ <;> exact this
  have hr := congrArg (fun x : GSem nD τ sig × ℕ × Fin 3 => (role x.1.2, x.2.2)) h
  subst hc
  rcases a with _ | _ | _ <;> rcases a' with _ | _ | _ <;>
    simp only [tokOf, role_bar, role_send, role_recv, Prod.mk.injEq] at hr <;>
    first
      | (cases hr.1; done)
      | (obtain ⟨h1, h2⟩ := hr; cases h1; rfl)
      | (obtain ⟨h1, h2⟩ := hr; subst h2; rfl)
def ringToks : Finset (GSem nD τ sig × ℕ × Fin 3) := Finset.univ.map ⟨tokOf, tokOf_injective⟩

def u₀ : UU :=
  (initOf (Pipeline.cells cfgs cellOf_inj) (Pipeline.launchToks cfgs cellOf_inj), (initOf ringCells ringToks, 1))

/-- The tokens of device `c`'s own cells. -/
def Minted (c : Dev nD) : sProp 𝕄 :=
  iprop((dutyTok ER (barCell c) 0 0 ∗ dutyTok ER (barCell c) 0 1 ∗ dutyTok ER (barCell c) 0 2)
    ∗ (dutyTok ER (sendCell c 0) 0 0 ∗ dutyTok ER (sendCell c 1) 0 0 ∗ dutyTok ER (sendCell c 2) 0 0)
    ∗ (dutyTok ER (recvCell c 0) 0 0 ∗ dutyTok ER (recvCell c 1) 0 0 ∗ dutyTok ER (recvCell c 2) 0 0))

/-- What the launch deals device `c`, -/
def G (c : Dev nD) : sProp 𝕄 :=
  iprop((bigSep Finset.univ fun i : CI => roundState ER (Rd m ρ) (kcell (c, i)) 0)
    ∗ (bigSep Finset.univ fun i : CI => atPos ER (kcell (c, i)) 0 ∅ 0) ∗ (bigSep Finset.univ fun i : CI => reached ER (kcell (c, i)) 0) ∗ Minted c)
/-- and what that becomes once every cell's invariant is made. -/
def G' (c : Dev nD) : sProp 𝕄 :=
  iprop((∃ K, records m ρ K ∗ Toks c ∗ Stands c 0) ∗ (semVal (copyCell c 0) 0 ∗ semVal (copyCell c 1) 0))

omit [FloatOps F] in
theorem bigSep_ci (Φ : CI → sProp 𝕄) : bigSep Finset.univ Φ
    = iprop(Φ none ∗ Φ (some (false, 0)) ∗ Φ (some (false, 1)) ∗ Φ (some (false, 2)) ∗ Φ (some (true, 0)) ∗ Φ (some (true, 1)) ∗ Φ (some (true, 2))) :=
  bigSep_univ_eq_bigSepL [none, some (false, 0), some (false, 1), some (false, 2), some (true, 0), some (true, 1), some (true, 2)] (by decide) (by decide) Φ
omit [FloatOps F] in
theorem bigSep_ti (Φ : Option Bool × Fin 3 → sProp 𝕄) : bigSep Finset.univ Φ
    = iprop(Φ (none, 0) ∗ Φ (none, 1) ∗ Φ (none, 2) ∗ Φ (some false, 0) ∗ Φ (some false, 1) ∗ Φ (some false, 2) ∗ Φ (some true, 0) ∗ Φ (some true, 1) ∗ Φ (some true, 2)) :=
  bigSep_univ_eq_bigSepL [(none, 0), (none, 1), (none, 2), (some false, 0), (some false, 1), (some false, 2), (some true, 0), (some true, 1), (some true, 2)] (by decide) (by decide) Φ

omit [FloatOps F] in
theorem minted_of_list (c : Dev nD) :
    (bigSep Finset.univ fun i : Option Bool × Fin 3 => (dutyTok ER (tokOf (c, i)).1 (tokOf (c, i)).2.1 (tokOf (c, i)).2.2 : sProp 𝕄)) ⊢ Minted c := by
  rw [bigSep_ti]
  unfold Minted
  iintro ⟨Hb0, Hb1, Hb2, Hs0, Hs1, Hs2, Hv0, Hv1, Hv2⟩
  isplitl [Hb0 Hb1 Hb2]
  · isplitl [Hb0]; · iexact Hb0
    isplitl [Hb1]; · iexact Hb1
    iexact Hb2
  isplitl [Hs0 Hs1 Hs2]
  · isplitl [Hs0]; · iexact Hs0
    isplitl [Hs1]; · iexact Hs1
    iexact Hs2
  isplitl [Hv0]; · iexact Hv0
  isplitl [Hv1]; · iexact Hv1
  iexact Hv2

omit [FloatOps F] in
theorem stands_of_list (c : Dev nD) : (bigSep Finset.univ fun i : CI => (atPos ER (kcell (c, i)) 0 ∅ 0 : sProp 𝕄)) ⊢ Stands c 0 := by
  rw [bigSep_ci]
  unfold Stands
  iintro ⟨Hb, Hs0, Hs1, Hs2, Hv0, Hv1, Hv2⟩
  isplitl [Hb]; · iexact Hb
  isplitl [Hs0 Hs1 Hs2]
  · isplitl [Hs0]; · iexact Hs0
    isplitl [Hs1]; · iexact Hs1
    iexact Hs2
  isplitl [Hv0]; · iexact Hv0
  isplitl [Hv1]; · iexact Hv1
  iexact Hv2

/-- The launch element of the kernel's rounds deals every device its share. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun i : CI => Φ (kcell (c, i)) := by
    unfold ringCells; rw [bigSep_map, bigSep_univ_prod]; rfl
  have hT : bigSep ringToks (fun x => (dutyTok ER x.1 x.2.1 x.2.2 : sProp 𝕄)) ⊢ bigSep Finset.univ fun c : Dev nD => Minted c := by
    unfold ringToks; rw [bigSep_map, bigSep_univ_prod]
    exact bigSep_mono fun c _ => minted_of_list c
  iintro HX
  imod (Rounds.fund ER (Rd m ρ) ringCells ringToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := hT $$ Htok
  unfold G; simp only [bigSep_sep']
  isplitl [Hst]; · iexact Hst
  isplitl [Hat]; · iexact Hat
  isplitl [Hr] <;> iassumption

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (recvCell c 0) 0 ∗ semVal (recvCell c 1) 0 ∗ semVal (recvCell c 2) 0
      ∗ semVal (copyCell c 0) 0 ∗ semVal (copyCell c 1) 0) := by
  rw [Pipeline.ownSems0_eq_of_list c osem [0, 1, 2, 3, 4, 5, 6, 7] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems_in (c : Dev nD) :
    iprop(Pipeline.ownSems0 (Ix := Unit) (Name := ℕ) (U := UU) (Lvl := ℕ) (Val := Elt F) (τ := τ) osem c ∗ unscopedSems0 c)
      ⊢ (iprop((bigSep Finset.univ fun i : CI => semVal (kcell (c, i)) 0) ∗ (semVal (copyCell c 0) 0 ∗ semVal (copyCell c 1) 0)) : sProp 𝕄) := by
  rw [ownSems0_eq, unscopedSems0_eq, bigSep_ci]
  iintro ⟨⟨Hs0, Hs1, Hs2, Hv0, Hv1, Hv2, Hc0, Hc1⟩, Hb⟩
  isplitl [Hb Hs0 Hs1 Hs2 Hv0 Hv1 Hv2]
  · isplitl [Hb]; · iexact Hb
    isplitl [Hs0]; · iexact Hs0
    isplitl [Hs1]; · iexact Hs1
    isplitl [Hs2]; · iexact Hs2
    isplitl [Hv0]; · iexact Hv0
    isplitl [Hv1]; · iexact Hv1
    iexact Hv2
  isplitl [Hc0]; · iexact Hc0
  iexact Hc1
omit [FloatOps F] in
theorem sems_out (c : Dev nD) :
    (iprop(Zeros c ∗ (semVal (copyCell c 0) 0 ∗ semVal (copyCell c 1) 0)) : sProp 𝕄)
      ⊢ iprop(unscopedSems0 c ∗ Pipeline.ownSems0 (Ix := Unit) (Name := ℕ) (U := UU) (Lvl := ℕ) (Val := Elt F) (τ := τ) osem c) := by
  rw [ownSems0_eq, unscopedSems0_eq]
  unfold Zeros
  iintro ⟨⟨Hb, ⟨Hs0, Hs1, Hs2⟩, ⟨Hv0, Hv1, Hv2⟩⟩, Hc0, Hc1⟩
  isplitl [Hb]; · iexact Hb
  isplitl [Hs0]; · iexact Hs0
  isplitl [Hs1]; · iexact Hs1
  isplitl [Hs2]; · iexact Hs2
  isplitl [Hv0]; · iexact Hv0
  isplitl [Hv1]; · iexact Hv1
  isplitl [Hv2]; · iexact Hv2
  isplitl [Hc0]; · iexact Hc0
  iexact Hc1

/-- A device's cells get their invariants; -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv ER (Rd m ρ) κ (kcell (c, i))))
          ∗ (bigSep Finset.univ fun i : CI => reached ER (kcell (c, i)) 0) ∗ (Stands c 0 ∗ (semVal (copyCell c 0) 0 ∗ semVal (copyCell c 1) 0)) ∗ Minted c) := by
  have hinv : iprop((bigSep Finset.univ fun i : CI => semVal (kcell (c, i)) 0) ∗ bigSep Finset.univ fun i : CI => roundState ER (Rd m ρ) (kcell (c, i)) 0)
      ⊢ (|={Set.univ}=> bigSep Finset.univ fun i : CI => iprop(∃ κ : ℕ, cellInv ER (Rd m ρ) κ (kcell (c, i))) : sProp 𝕄) := by
    rw [← bigSep_sep']
    exact (bigSep_mono fun i _ => (Rounds.body_intro ER (Rd m ρ) (kcell (c, i))).trans inv_alloc).trans (bigSep_fupd _ _)
  unfold G
  iintro ⟨Hos, Hus, Hst, Hat, Hr, Htok⟩
  ihave Hv := (sems_in (F := F) c) $$ [Hos Hus]
  · isplitl [Hos] <;> iassumption
  icases Hv with ⟨Hv, Hc⟩
  imod hinv $$ [Hv Hst] with Hinv
  · isplitl [Hv] <;> iassumption
  imodintro
  ihave Hat := (stands_of_list (F := F) c) $$ Hat
  isplitl [Hinv]; · iexact Hinv
  isplitl [Hr]; · iexact Hr
  isplitl [Hat Hc]
  · isplitl [Hat] <;> iassumption
  iexact Htok

omit [FloatOps F] in
/-- a family over the devices, read `k + 1` places ahead; -/
theorem ahead (k : Fin 3) (Φ : Dev nD → sProp 𝕄) : bigSep Finset.univ Φ = bigSep Finset.univ fun c => Φ (sh (k.val + 1) c) :=
  bigSep_univ_equiv (ring k) Φ
omit [FloatOps F] in
theorem ahead0 (Φ : Dev nD → sProp 𝕄) : bigSep Finset.univ Φ = bigSep Finset.univ fun c => Φ (sh (0 + 1) c) := ahead 0 Φ
omit [FloatOps F] in
theorem ahead1 (Φ : Dev nD → sProp 𝕄) : bigSep Finset.univ Φ = bigSep Finset.univ fun c => Φ (sh (1 + 1) c) := ahead 1 Φ
omit [FloatOps F] in
theorem ahead2 (Φ : Dev nD → sProp 𝕄) : bigSep Finset.univ Φ = bigSep Finset.univ fun c => Φ (sh (2 + 1) c) := ahead 2 Φ

omit [FloatOps F] in
/-- every token goes to the device that pays its duty; -/
theorem toks_around : (bigSep Finset.univ fun c : Dev nD => (Minted c : sProp 𝕄)) ⊢ bigSep Finset.univ fun c : Dev nD => Toks c := by
  unfold Minted Toks
  simp only [bigSep_sep']
  rw [ahead0 (fun c : Dev nD => (dutyTok ER (barCell c) 0 0 : sProp 𝕄)), ahead1 (fun c : Dev nD => (dutyTok ER (barCell c) 0 1 : sProp 𝕄)),
    ahead2 (fun c : Dev nD => (dutyTok ER (barCell c) 0 2 : sProp 𝕄)), ahead0 (fun c : Dev nD => (dutyTok ER (recvCell c 0) 0 0 : sProp 𝕄)),
    ahead1 (fun c : Dev nD => (dutyTok ER (recvCell c 1) 0 0 : sProp 𝕄)), ahead2 (fun c : Dev nD => (dutyTok ER (recvCell c 2) 0 0 : sProp 𝕄))]

/-- and all the invariants, at the names they were made at, are every device's. -/
theorem regroup :
    (bigSep Finset.univ fun c : Dev nD => iprop((bigSep Finset.univ fun i : CI => iprop(∃ κ : ℕ, cellInv ER (Rd m ρ) κ (kcell (c, i))))
          ∗ (bigSep Finset.univ fun i : CI => reached ER (kcell (c, i)) 0) ∗ (Stands c 0 ∗ (semVal (copyCell c 0) 0 ∗ semVal (copyCell c 1) 0)) ∗ Minted c) : sProp 𝕄)
      ⊢ bigSep Finset.univ (G' m ρ) := by
  have hone (K : Dev nD × CI → ℕ) (c : Dev nD) :
      iprop(records m ρ K ∗ ((Stands c 0 ∗ (semVal (copyCell c 0) 0 ∗ semVal (copyCell c 1) 0)) ∗ Toks c)) ⊢ G' m ρ c := by
    unfold G'
    iintro ⟨#HR, ⟨Hat, Hc⟩, Htok⟩
    isplitl [Hat Htok]
    · iexists K
      isplitr; · iexact HR
      isplitl [Htok] <;> iassumption
    iexact Hc
  have hshare (K : Dev nD × CI → ℕ) :
      iprop(records m ρ K ∗ bigSep Finset.univ fun c : Dev nD => iprop((Stands c 0 ∗ (semVal (copyCell c 0) 0 ∗ semVal (copyCell c 1) 0)) ∗ Toks c))
        ⊢ bigSep Finset.univ (G' m ρ) := by
    refine (sep_mono_left (BI.bigSep_of_persistent (Finset.univ : Finset (Dev nD)) (records m ρ K))).trans ?_
    rw [← bigSep_sep']
    exact bigSep_mono fun c _ => hone K c
  rw [bigSep_sep', bigSep_sep', bigSep_sep', ← bigSep_univ_prod (fun p : Dev nD × CI => iprop(∃ κ : ℕ, cellInv ER (Rd m ρ) κ (kcell p))),
    ← bigSep_univ_prod (fun p : Dev nD × CI => (reached ER (kcell p) 0 : sProp 𝕄))]
  iintro ⟨HI, #HR, Hat, Htok⟩
  ihave HK := (BI.bigSep_exists_pi Finset.univ (fun (p : Dev nD × CI) (κ : ℕ) => (cellInv ER (Rd m ρ) κ (kcell p) : sProp 𝕄))) $$ HI
  icases HK with ⟨%K, #HI⟩
  ihave Htok := (toks_around (F := F)) $$ Htok
  iapply (hshare K)
  isplitr
  · unfold records; isplitl; · iexact HI
    iexact HR
  iapply (Entails.of_eq (bigSep_sep' Finset.univ (fun c : Dev nD => iprop(Stands c 0 ∗ (semVal (copyCell c 0) 0 ∗ semVal (copyCell c 1) 0))) (fun c : Dev nD => (Toks c : sProp 𝕄))).symm)
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

theorem cell_dev {c d : Dev nD} {a b : SemLoc sig} (h : (((c : Thread nD τ), a) : GSem nD τ sig) = ((d : Thread nD τ), b)) : c = d :=
  congrArg (fun g : GSem nD τ sig => g.1.1) h

/-- Device `d`'s signal `k` is one unit at the cell of the device `k + 1` ahead, -/
theorem barT_bar (d c : Dev nD) (k : Fin 3) : barT d k (barCell c) () = if d = sh (k.rev.val + 1) c then 1 else 0 := by
  rw [tallyAt_apply]
  refine if_congr ⟨fun h => ?_, fun h => ?_⟩ rfl rfl
  · rw [cell_dev h.1, sh_rev]
  · subst h; exact ⟨by rw [rev_sh], rfl⟩
theorem barT_recv (d c : Dev nD) (k k' : Fin 3) : barT d k (recvCell c k') () = 0 := by
  rw [tallyAt_apply]; exact if_neg fun h => by cases congrArg Prod.snd h.1
theorem recvT_bar (d c : Dev nD) (k : Fin 3) : recvT d k (barCell c) () = 0 := by
  rw [tallyAt_apply]; exact if_neg fun h => by cases congrArg Prod.snd h.1
/-- and its transfer `k` a slot's bytes at the receive cell `k` there. -/
theorem recvT_recv (d c : Dev nD) (k k' : Fin 3) : recvT d k (recvCell c k') () = if k = k' ∧ d = sh (k.rev.val + 1) c then N else 0 := by
  rw [tallyAt_apply]
  refine if_congr ⟨fun h => ?_, fun h => ?_⟩ rfl rfl
  · have hk : role (SemLoc.dma (recvS k')) = role (SemLoc.dma (recvS k)) := congrArg role (congrArg Prod.snd h.1)
    rw [role_recv, role_recv] at hk
    cases hk
    exact ⟨rfl, by rw [cell_dev h.1, sh_rev]⟩
  · obtain ⟨rfl, rfl⟩ := h; exact ⟨by rw [rev_sh], rfl⟩

theorem launch_bar (c : Dev nD) :
    tallyOn (barCell c) (launchCredit (Pipeline.owing O₀) 0 (barCell c)) = (tallyAt (barCell c) () 3 : CellTallies nD τ sig Unit) := by
  have h (d : Dev nD) : O₀ d (barCell c) () = (if d = sh ((2 : Fin 3).rev.val + 1) c then 1 else 0) + (if d = sh ((1 : Fin 3).rev.val + 1) c then 1 else 0)
      + (if d = sh ((0 : Fin 3).rev.val + 1) c then 1 else 0) := by
    unfold O₀ O₁ O₂ O₃
    simp only [Pi.add_apply, Finsupp.add_apply, barT_bar]
    rw [recvT_bar d c 2, recvT_bar d c 1, recvT_bar d c 0, Pi.zero_apply, Finsupp.zero_apply, Nat.zero_add]
  unfold tallyAt; refine congrArg _ (Finsupp.ext fun u => ?_); cases u
  rw [Pipeline.launchCredit_owing, Finsupp.single_eq_same, Finset.sum_congr rfl fun d _ => h d]
  simp only [Finset.sum_add_distrib, Finset.sum_ite_eq', Finset.mem_univ, if_true]
theorem launch_recv (c : Dev nD) (k : Fin 3) :
    tallyOn (recvCell c k) (launchCredit (Pipeline.owing O₀) 0 (recvCell c k)) = (tallyAt (recvCell c k) () N : CellTallies nD τ sig Unit) := by
  have h (d : Dev nD) : O₀ d (recvCell c k) () = if d = sh (k.rev.val + 1) c then N else 0 := by
    unfold O₀ O₁ O₂ O₃
    simp only [Pi.add_apply, Finsupp.add_apply, barT_recv]
    rw [recvT_recv d c 2 k, recvT_recv d c 1 k, recvT_recv d c 0 k, Pi.zero_apply, Finsupp.zero_apply, Nat.zero_add, Nat.add_zero, Nat.add_zero, Nat.add_zero]
    match k with
    | 0 => rw [if_neg (fun h => absurd h.1 (by decide)), if_neg (fun h => absurd h.1 (by decide)), Nat.zero_add]
           exact if_congr (and_iff_right rfl) rfl rfl
    | 1 => rw [if_neg (fun h => absurd h.1 (by decide)), if_neg (c := (0 : Fin 3) = 1 ∧ _) (fun h => absurd h.1 (by decide)), Nat.zero_add, Nat.add_zero]
           exact if_congr (and_iff_right rfl) rfl rfl
    | 2 => rw [if_neg (c := (1 : Fin 3) = 2 ∧ _) (fun h => absurd h.1 (by decide)), if_neg (c := (0 : Fin 3) = 2 ∧ _) (fun h => absurd h.1 (by decide)), Nat.add_zero, Nat.add_zero]
           exact if_congr (and_iff_right rfl) rfl rfl
  unfold tallyAt; refine congrArg _ (Finsupp.ext fun u => ?_); cases u
  rw [Pipeline.launchCredit_owing, Finsupp.single_eq_same, Finset.sum_congr rfl fun d _ => h d]
  simp only [Finset.sum_ite_eq', Finset.mem_univ, if_true]

omit [FloatOps F] in
/-- One summand taken out of a separating product. -/
theorem take_one {I : Type} [DecidableEq I] {s : Finset I} {i : I} (h : i ∈ s) {Ψ : I → sProp 𝕄} :
    bigSep s Ψ = iprop(Ψ i ∗ bigSep (s.erase i) Ψ) := bigSep_erase h

omit [FloatOps F] in
theorem creds (c : Dev nD) : (Pipeline.launchCred O₀ c : sProp 𝕄) ⊢ Creds c := by
  have hne (k k' : Fin 3) (h : k ≠ k') : SemLoc.dma (recvS k) ≠ (SemLoc.dma (recvS k') : SemLoc sig) := fun e => h (by
    have := congrArg role e; rw [role_recv, role_recv] at this; cases this; rfl)
  unfold Pipeline.launchCred Creds
  rw [bigSep_univ_at _ (SemLoc.reg barS), launch_bar,
    take_one (i := SemLoc.dma (recvS 0)) (Finset.mem_erase.mpr ⟨fun e => (by cases e), Finset.mem_univ _⟩), launch_recv,
    take_one (i := SemLoc.dma (recvS 1)) (Finset.mem_erase.mpr ⟨hne 1 0 (by decide), Finset.mem_erase.mpr ⟨fun e => (by cases e), Finset.mem_univ _⟩⟩), launch_recv,
    take_one (i := SemLoc.dma (recvS 2)) (Finset.mem_erase.mpr ⟨hne 2 1 (by decide), Finset.mem_erase.mpr ⟨hne 2 0 (by decide), Finset.mem_erase.mpr ⟨fun e => (by cases e), Finset.mem_univ _⟩⟩⟩), launch_recv]
  iintro ⟨Hb, H0, H1, H2, -⟩
  isplitl [Hb]; · iexact Hb
  isplitl [H0]; · iexact H0
  isplitl [H1]; · iexact H1
  iexact H2

/-! ## Into the body and out of it -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨Hw, Hlev, Hcr, -, HG⟩
  ihave Hcr := (creds (F := F) c) $$ Hcr
  unfold G'
  icases HG with ⟨HG, Hc⟩
  imodintro
  unfold start argAt
  isplitl
  · isplitl [HG]; · iexact HG
    isplitl [Hc]; · iexact Hc
    isplitl [Hcr]; · iexact Hcr
    isplitl [Hlev]; · iexact Hlev
    iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ Scr
  iintro ⟨Hs, -, Hr⟩
  isplitl [Hs] <;> iassumption

/-- What is read of a device after the run: its barrier counter and its `w`. -/
def Left (c : Dev nD) : sProp 𝕄 := iprop(unscopedSems0 c ∗ argAt m c)

theorem phi1_exit (c : Dev nD) :
    (dats m ρ 0 c).Φ (Fin.last cfg0.N) ⊢ iprop(Left m c ∗ Pipeline.ownSems0 osem c ∗ Pipeline.scopedRest cfg0.spec c) := by
  rw [show (dats m ρ 0 c).Φ (Fin.last cfg0.N) = Φ₁ m c from rfl, scopedRest0_eq]
  unfold Φ₁ Left Scr
  iintro ⟨HZ, Hc, Hw, Hr⟩
  ihave HS := (sems_out (F := F) c) $$ [HZ Hc]
  · isplitl [HZ] <;> iassumption
  icases HS with ⟨Hu, Ho⟩
  isplitl [Hu Hw]
  · isplitl [Hu] <;> iassumption
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What is known of a device's `w` and of its unscoped counters after the run. -/
def Kept (c : Dev nD) (s : MemSt nD τ sig (Elt F)) : Prop :=
  (∀ sm : SemLoc sig, sm.isScoped .tc = false → s.sem ((c.tc : Thread nD τ), sm) = 0) ∧ s.mem ((c : Thread nD τ).loc main_arg1) = wbuf m c

theorem left_read (c : Dev nD) (s' : Phys nD τ sig (Elt F)) :
    iprop(Left m c ∗ emp ∗ SI s') ⊢ (|={Set.univ}=> iprop(⌜Kept m c s'.mem⌝ ∗ SI s') : sProp 𝕄) := by
  have hr := pointsTo_read_all (Ix := Unit) (Name := ℕ) (U := UU) (Lvl := ℕ) ({()} : Finset Unit) (fun _ => (c : Thread nD τ).loc main_arg1) (fun _ => wbuf m c) s'
  rw [bigSep_singleton] at hr
  unfold Left argAt
  iintro ⟨⟨Hu, Hw⟩, -, HSI⟩
  ihave H := hr $$ [Hw HSI]
  · isplitl [Hw] <;> iassumption
  icases H with ⟨%hw, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨hs, hw () (Finset.mem_singleton_self _)⟩
  iexact HSI

/-! ## The run -/

def finalA (c : Dev nD) (w : Fin cfg0.W) : Buf (Elt F) ((cfg0.win w).arr.view.loc (c : Thread nD τ)) := (dats m ρ 0 c).arrAt w cfg0.N

/-- After the run: the staged arrays as the proof data say, `w` as it was. -/
def Ended (r : PUnit × MemSt nD τ sig (Elt F)) : Prop :=
  ∀ c : Dev nD, (∀ w : Fin cfg0.W, r.2.mem ((cfg0.win w).arr.view.loc (c : Thread nD τ)) = finalA m ρ c w)
    ∧ r.2.mem ((c : Thread nD τ).loc main_arg1) = wbuf m c

set_option maxRecDepth 8000 in
/-- From any memory with every counter at zero, every execution ends, as `Ended` says, with every counter at zero. -/
theorem run_main : θ_run defs (onTc (τ := τ) (main (F := F))) (s₀ m ρ) (fun r => Ended m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      have hE : (BI.own (embR (initOf ringCells ringToks, (1 : Counters)) : MT nD τ sig Unit (Elt F) ℕ UU ℕ) : sProp 𝕄) ⊢ BI.own (ER (initOf ringCells ringToks)) :=
        Entails.of_eq rfl
      unfold u₀
      iintro Hu
      ihave H := (ownU_pair _ _) $$ Hu
      icases H with ⟨HP, HX⟩
      ihave HX := hE $$ HX
      imod (fund_ring m ρ) $$ HX with HG
      imodintro
      isplitl [HP] <;> iassumption)
    (hglob := glob m ρ)
    (hA := fun _ _ => rfl) (hpf := fun _ k => k.elim0)
    (X := start m ρ) (Y := Left m) (Z := fun _ => iprop(emp))
    (hX := start_intro m ρ) (hin := phi0_intro m ρ) (hout := phi1_exit m ρ)
    (QY := Kept m) (hY := left_read m)
    (hQ := fun _ h hs => ⟨fun c => ⟨fun w => (h c).1 w, (h c).2.2.2⟩, sem_eq_zero hs fun c => (h c).2.2.1⟩)

/-! ## What it says -/

/-- The result's array holds what the body left in its staging buffer. -/
theorem finalA_out (c : Dev nD) : finalA m ρ c (3 : Fin 4) = outAt m ρ c := by
  have hz : (fun a => (win0_3.index (0 : Fin 1)) a * main_v1.ty.shape.size a) = fun _ => 0 := funext fun a => by fin_cases a <;> decide
  have hr : (win0_3.blk (0 : Fin 1)).view.read (Elt F) (finalA m ρ c (3 : Fin 4)) = finalA m ρ c (3 : Fin 4) :=
    Memref.read_access_unit_zero (Elt F) main_v1 hz (fun a => by fin_cases a <;> decide) _
  rw [← hr]
  unfold finalA
  rw [show cfg0.N = ((0 : Fin 1) : Fin cfg0.N).val + 1 from rfl, (dats m ρ 0 c).arrAt_succ (3 : Fin 4) (0 : Fin 1),
    show (cfg0.win (3 : Fin 4)).flush (0 : Fin 1) = true from flush0_3 _, if_pos rfl]
  exact View.read_write_univ _ _

/-- Every execution ends with device `c`'s result at `outAt`, the arguments unchanged, every counter at zero. -/
theorem run_out : θ_run defs (onTc (τ := τ) (main (F := F))) ⟨m, fun _ => 0, ρ⟩ (fun r => (∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨((h.1 c).1 3).trans (finalA_out m ρ c),
    ((h.1 c).1 0).trans ((dats (F := F) m ρ 0 c).arrAt_in (0 : Fin 4) rfl _), (h.1 c).2,
    ((h.1 c).1 1).trans ((dats (F := F) m ρ 0 c).arrAt_in (1 : Fin 4) rfl _),
    ((h.1 c).1 2).trans ((dats (F := F) m ρ 0 c).arrAt_in (2 : Fin 4) rfl _)⟩, h.2⟩) (run_main m ρ)

end Cert.KernelIdeal.Run

end
-- ==== Proof.Value.lean ====
/-
  What the kernel computes, over the extended reals, and that it is the reference's result (hand-written, untrusted).
  There a narrowing is the identity. Device `c` ends with the sum of four products: the rows `c` of the columns that
  device `b` holds by the rows `b` of `w`, for `b = c` first and then for the other three in the order in which the
  kernel takes the received blocks. The reference's one sum over 4096 is the sum of the same four sums over 1024.
-/
module

public import proofs.«01_k».proof.Proof.KernelIdealRun
public import proofs.«01_k».proof.Proof.Gen.ReferenceIdeal.Run
public import Idealize.ShloMosaic.Lib.Layout
public import Idealize.ShloMosaic.Lib.MatmulPlain
public import Idealize.ShloMosaic.Lib.Pipeline.Value
public import Idealize.ShloMosaic.Lib.KernelVsHost
public import Idealize.ShloMosaic.PureOps.Ideal.Laws

@[expose] public section

noncomputable section

namespace Cert.Value

open Idealize.ShloMosaic Idealize.ShloMosaic.ValueIdx Idealize.ShloMosaic.TcCoe Idealize.SL.Sem
open Cert.KernelIdeal Cert.KernelIdeal.Gen Cert.KernelIdeal.Run
open scoped BigOperators

/-! ## Four sums of 1024 are one of 4096 -/

/-- Place `k` of block `b`. -/
def at4 (b : Fin 4) (k : Fin 1024) : Fin 4096 := ⟨1024 * b.val + k.val, by omega⟩

theorem sum_blocks (f : Fin 4096 → EReal) : ∑ i : Fin 4096, f i = ∑ b : Fin 4, ∑ k : Fin 1024, f (at4 b k) := by
  rw [← Finset.sum_product', Finset.univ_product_univ, ← Equiv.sum_comp (finProdFinEquiv (m := 4) (n := 1024))]
  exact Finset.sum_congr rfl fun p _ => congrArg f (Fin.ext (Nat.add_comm _ _))

/-- The four blocks in the order in which device `c` takes them. -/
theorem sum_order (g : Dev nD → EReal) (c : Dev nD) :
    ((g c + g (src c 0)) + g (src c 2)) + g (src c 1) = ∑ b : Fin 4, g b := by
  rw [Fin.sum_univ_four]
  fin_cases c
  · show ((g 0 + g 3) + g 1) + g 2 = _
    ac_rfl
  · show ((g 1 + g 0) + g 2) + g 3 = _
    ac_rfl
  · show ((g 2 + g 1) + g 3) + g 0 = _
    ac_rfl
  · show ((g 3 + g 2) + g 0) + g 1 = _
    ac_rfl

/-! ## The kernel's products at a place -/

theorem pay9_at (a : FVec Ideal S1024x1024 .f32) (b : FVec Ideal S1024x2048 .fp8e5m2) (r : Fin 1024) (n : Fin 2048) :
    k0_pay9 (k0_pay8 a) b (ix2 r n) = ∑ k : Fin 1024, (a (ix2 r k) * b (ix2 k n) : EReal) := by
  have h := Ideal.matmul_plain_apply none (k0_pay8 a) b (constant S1024x2048 .f32 0x00000000#32) r n
  refine h.trans ?_
  rw [show (constant S1024x2048 .f32 0x00000000#32 : FVec Ideal S1024x2048 .f32) (ix2 r n) = (0 : EReal) from Ideal.ofBits_zero_f32, zero_add]
  unfold k0_pay8
  rw [shapeCast_self]

theorem pay13_at (a : FVec Ideal S1024x1024 .fp8e4m3) (b : FVec Ideal S1024x2048 .fp8e5m2) (y : FVec Ideal S1024x2048 .f32)
    (r : Fin 1024) (n : Fin 2048) :
    k0_pay13 a b y (ix2 r n) = (y (ix2 r n) + ∑ k : Fin 1024, (a (ix2 r k) * b (ix2 k n) : EReal) : EReal) := by
  have h := Ideal.matmul_plain_apply none a b (constant S1024x2048 .f32 0x00000000#32) r n
  rw [show (constant S1024x2048 .f32 0x00000000#32 : FVec Ideal S1024x2048 .f32) (ix2 r n) = (0 : EReal) from Ideal.ofBits_zero_f32, zero_add] at h
  unfold k0_pay13
  rw [shapeCast_self]
  exact congrArg ((y (ix2 r n) : EReal) + ·) h

/-! ## The blocks at a place -/

section Blocks

variable (m : (ℓ : Loc nD τ sig) → Buf (Elt Ideal) ℓ) (ρ : Dev nD → PrngReg)

theorem xstg_eq (c : Dev nD) : xstg m ρ c = m ((c : Thread nD τ).loc main_arg0) :=
  Memref.read_access_unit_zero (Elt Ideal) main_arg0 (funext fun a => by fin_cases a <;> decide) (fun a => by fin_cases a <;> decide) _
theorem sxstg_eq (c : Dev nD) : sxstg m ρ c = m ((c : Thread nD τ).loc main_arg2) :=
  Memref.read_access_unit_zero (Elt Ideal) main_arg2 (funext fun a => by fin_cases a <;> decide) (fun a => by fin_cases a <;> decide) _
theorem swstg_eq (c : Dev nD) : swstg m ρ c = m ((c : Thread nD τ).loc main_arg3) :=
  Memref.read_access_unit_zero (Elt Ideal) main_arg3 (funext fun a => by fin_cases a <;> decide) (fun a => by fin_cases a <;> decide) _

theorem xblk_at (c b : Dev nD) (r k : Fin 1024) :
    xblk m ρ c b (ix2 r k) = (m ((c : Thread nD τ).loc main_arg0) : FVec Ideal S4096x1024 .f32) (ix2 (at4 b r) k) := by
  unfold xblk
  rw [xstg_eq]
  refine congrArg (m ((c : Thread nD τ).loc main_arg0) : FVec Ideal S4096x1024 .f32) (funext fun a => Fin.ext ?_)
  match a with
  | ⟨0, _⟩ => show 1024 * b.val + 1 * r.val = 1024 * b.val + r.val; omega
  | ⟨1, _⟩ => show 0 + 1 * k.val = k.val; omega

theorem wblk_at (c b : Dev nD) (k : Fin 1024) (n : Fin 2048) :
    wblk8 m c b (ix2 k n) = (m ((c : Thread nD τ).loc main_arg1) : FVec Ideal S4096x2048 .f32) (ix2 (at4 b k) n) := by
  refine congrArg (m ((c : Thread nD τ).loc main_arg1) : FVec Ideal S4096x2048 .f32) (funext fun a => Fin.ext ?_)
  match a with
  | ⟨0, _⟩ => show 1024 * b.val + 1 * k.val = 1024 * b.val + k.val; omega
  | ⟨1, _⟩ => show 0 + 1 * n.val = n.val; omega

theorem sent_eq (d : Dev nD) (k : Fin 3) (i : S1024x1024.Idx) : sent m ρ d k i = xblk m ρ d (sh (k.val + 1) d) i := by
  have h : sent m ρ d k = (truncf .fp8e4m3 (shapeCast S1024x1024 (xblk m ρ d (sh (k.val + 1) d)) shapeCasts_S1024x1024_S1024x1024) bitsLt_fp8e4m3_f32 : FVec Ideal S1024x1024 .fp8e4m3) := by
    unfold sent k0_pay12 k0_pay1
    exact shapeCast_shapeCast _ _ _
  rw [h, shapeCast_self]
  rfl

end Blocks

/-! ## The two results at a place -/

/-- The reference's result of whole arrays. -/
def whole (X : FVec Ideal Cert.ReferenceIdeal.S4096x4096 .f32) (W : FVec Ideal Cert.ReferenceIdeal.S4096x2048 .f32)
    (a b : FVec Ideal Cert.ReferenceIdeal.S1 .f32) : FVec Ideal Cert.ReferenceIdeal.S4096x2048 .f32 :=
  maximumf (mulf (Host.dotGeneral Cert.ReferenceIdeal.dot_S4096x4096_S4096x2048_S4096x2048_1_0_0_1_n_n none X W)
    (broadcastInDim Cert.ReferenceIdeal.S4096x2048 ![0, 1] Cert.ReferenceIdeal.Gen.bcast_S1x1_S4096x2048_0_1
      (broadcastInDim Cert.ReferenceIdeal.S1x1 ![1] Cert.ReferenceIdeal.Gen.bcast_S1_S1x1_1 (mulf a b))))
    (broadcastInDim Cert.ReferenceIdeal.S4096x2048 ![] Cert.ReferenceIdeal.Gen.bcast_S_S4096x2048
      (constant Cert.ReferenceIdeal.S_ .f32 0x00000000#32))

/-- The one place of a one-element array. -/
abbrev i0 : S1.Idx := Shape.Idx.first (numel1_S1.symm ▸ Nat.one_pos)

theorem whole_at (X : FVec Ideal Cert.ReferenceIdeal.S4096x4096 .f32) (W : FVec Ideal Cert.ReferenceIdeal.S4096x2048 .f32)
    (a b : FVec Ideal Cert.ReferenceIdeal.S1 .f32) (r : Fin 4096) (n : Fin 2048) :
    whole X W a b (ix2 r n)
      = (max ((∑ k : Fin 4096, (X (ix2 r k) * W (ix2 k n) : EReal)) * ((a i0 : EReal) * (b i0 : EReal))) 0 : EReal) := by
  have hs : (broadcastInDim Cert.ReferenceIdeal.S4096x2048 ![0, 1] Cert.ReferenceIdeal.Gen.bcast_S1x1_S4096x2048_0_1
      (broadcastInDim Cert.ReferenceIdeal.S1x1 ![1] Cert.ReferenceIdeal.Gen.bcast_S1_S1x1_1 (mulf a b))) (ix2 r n) = mulf a b i0 := by
    rw [broadcastInDim_apply _ _ _ _ (ix2 (0 : Fin 1) (0 : Fin 1)) (fun a => by fin_cases a <;> rfl),
      broadcastInDim_apply _ _ _ _ i0 (fun a => by fin_cases a; exact Nat.lt_one_iff.mp (i0 0).isLt)]
  have hd : Host.dotGeneral Cert.ReferenceIdeal.dot_S4096x4096_S4096x2048_S4096x2048_1_0_0_1_n_n none X W (ix2 r n)
      = (∑ k : Fin 4096, (X (ix2 r k) * W (ix2 k n) : EReal) : EReal) :=
    (Ideal.matmul_plain_apply none X W (fun _ => (0 : EReal)) r n).trans (zero_add _)
  unfold whole
  show (max (Host.dotGeneral Cert.ReferenceIdeal.dot_S4096x4096_S4096x2048_S4096x2048_1_0_0_1_n_n none X W (ix2 r n) * _ : EReal)
    (Ideal.ofBits .f32 0x00000000#32) : EReal) = _
  rw [hd, hs, Ideal.ofBits_zero_f32]
  rfl

/-- Device `c` ends with block `c` of the reference's result, if its columns of `x` are block `c` and it has all of `w`
    and the scales. -/
theorem outAt_eq (m : (ℓ : Loc nD τ sig) → Buf (Elt Ideal) ℓ) (ρ : Dev nD → PrngReg)
    (X : FVec Ideal Cert.ReferenceIdeal.S4096x4096 .f32) (W : FVec Ideal Cert.ReferenceIdeal.S4096x2048 .f32)
    (a b : FVec Ideal Cert.ReferenceIdeal.S1 .f32)
    (hX : ∀ c : Dev nD, m ((c : Thread nD τ).loc main_arg0) = Layout.block ⟨2, ![4096, 1024]⟩ ⟨2, ![4096, 4096]⟩ 1 4 c X)
    (hW : ∀ c : Dev nD, m ((c : Thread nD τ).loc main_arg1) = W)
    (ha : ∀ c : Dev nD, m ((c : Thread nD τ).loc main_arg2) = a)
    (hb : ∀ c : Dev nD, m ((c : Thread nD τ).loc main_arg3) = b) (c : Dev nD) :
    outAt m ρ c = Layout.block ⟨2, ![1024, 2048]⟩ ⟨2, ![4096, 2048]⟩ 0 4 c (whole X W a b) := by
  -- a block of a device's columns, and a block of `w`, as places of the whole arrays
  have ex (d e : Dev nD) (r k : Fin 1024) : xblk m ρ d e (ix2 r k) = X (ix2 (at4 e r) (at4 d k)) := by
    rw [xblk_at, hX]
    refine congrArg X (funext fun a => Fin.ext ?_)
    match a with
    | ⟨0, _⟩ => rfl
    | ⟨1, _⟩ => show d.val * 1024 + k.val = 1024 * d.val + k.val; omega
  have ew (d : Dev nD) (k : Fin 1024) (n : Fin 2048) : wblk8 m c d (ix2 k n) = W (ix2 (at4 d k) n) := by rw [wblk_at, hW]
  have es (k : Fin 3) (r q : Fin 1024) : sent m ρ (src c k) k (ix2 r q) = X (ix2 (at4 c r) (at4 (src c k) q)) := by
    rw [sent_eq, show sh (k.val + 1) (src c k) = c from rev_sh k c, ex]
  funext i
  obtain ⟨r, n, rfl⟩ : ∃ (r : Fin 1024) (n : Fin 2048), i = ix2 r n := ⟨i 0, i 1, eq_ix2 i⟩
  have hi : (by decide : Layout.Tiles ⟨2, ![1024, 2048]⟩ ⟨2, ![4096, 2048]⟩ 0 4).idx c (ix2 r n) = ix2 (at4 c r) n := by
    refine funext fun a => Fin.ext ?_
    match a with
    | ⟨0, _⟩ => show c.val * 1024 + r.val = 1024 * c.val + r.val; omega
    | ⟨1, _⟩ => rfl
  rw [Layout.block_apply, hi, whole_at]
  -- the kernel's sum is the reference's
  have hsum : acc4 m ρ c (ix2 r n) = (∑ k : Fin 4096, (X (ix2 (at4 c r) k) * W (ix2 k n) : EReal) : EReal) := by
    rw [sum_blocks, ← sum_order _ c]
    unfold acc4 acc3 acc2 acc1
    rw [pay13_at, pay13_at, pay13_at, pay9_at]
    simp only [ex, ew, es]
  show (max ((acc4 m ρ c (ix2 r n) : EReal) * (word (F := Ideal) (sxstg m ρ c) * word (F := Ideal) (swstg m ρ c))) (Ideal.ofBits .f32 0x00000000#32) : EReal) = _
  rw [hsum, sxstg_eq, swstg_eq, ha, hb, Ideal.ofBits_zero_f32]

end Cert.Value

end
-- ==== Proof.lean ====
/-
  The five claims of `Cert.Claim` (hand-written, untrusted): the frame of the kernel, of its reading over the extended
  reals and of the reference; that nothing was rewritten between the first two; and that over the extended reals each
  device ends with its block of the reference's result. The runs are Proof/KernelRun.lean and
  Proof/KernelIdealRun.lean, the one text at the two float instances; what they compute is Proof/Value.lean.
-/
module

public import proofs.«01_k».proof.Defs
public import proofs.«01_k».proof.Proof.KernelRun
public import proofs.«01_k».proof.Proof.KernelIdealRun
public import proofs.«01_k».proof.Proof.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The kernel's run, its result left out. -/
theorem frame_k : Cert.quiescent_Kernel := fun m ρ _ =>
  (θ_run Cert.Kernel.defs _ _).mono (fun _ h => ⟨fun c => (h.1 c).2, h.2⟩) (Cert.Kernel.Run.run_out (F := Bits) m ρ)

/-- The same of its reading over the extended reals. -/
theorem frame_ki : Cert.quiescent_KernelIdeal := fun m ρ _ =>
  (θ_run Cert.KernelIdeal.defs _ _).mono (fun _ h => ⟨fun c => (h.1 c).2, h.2⟩) (Cert.KernelIdeal.Run.run_out (F := Ideal) m ρ)

/-- The reference's run; it has no semaphores. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Nothing was rewritten for the reading over the extended reals. -/
theorem preserves : Cert.preserves_Kernel_KernelIdeal := trivial

/-- Over the extended reals each device ends with its block of the reference's result. -/
theorem algebraic : Cert.algebraic_KernelIdeal_ReferenceIdeal := by
  intro m ρ m' ρ' _ hagree
  refine ⟨_, (θ_run Cert.KernelIdeal.defs _ _).mono (fun r h c => ⟨(h.1 c).1.trans ?_, (h.1 c).2⟩)
      (Cert.KernelIdeal.Run.run_out (F := Ideal) m ρ),
    (θ_run Cert.ReferenceIdeal.defs _ _).mono (fun _ h => h 0) (Cert.ReferenceIdeal.Value.run (F := Ideal) m' ρ')⟩
  exact Cert.Value.outAt_eq m ρ _ _ _ _ (fun d => (hagree d).1) (fun d => (hagree d).2.1) (fun d => (hagree d).2.2.1)
    (fun d => (hagree d).2.2.2) c

theorem claim : Cert.Claim := ⟨Cert.Kernel.Gen.facts, Cert.KernelIdeal.Gen.facts, Cert.ReferenceIdeal.Gen.facts,
  frame_k, frame_ki, frame_ri, preserves, algebraic⟩

end Cert.Proof

end
